-- ==== Defs.lean ====
def Pre_Kernel (m : (ℓ : Loc Cert.Kernel.nD Cert.Kernel.τ Cert.Kernel.sig) → Buf (Elt Bits) ℓ) : Prop :=
  True

def Pre_Kernel_no_tie_Kernel [hPre_no_tie_Kernel : Cert.Pre_no_tie_Kernel.Facts] (m : (ℓ : Loc Cert.Kernel.nD Cert.Kernel.τ Cert.Kernel.sig) → Buf (Elt Bits) ℓ) : Prop :=
  ∀ c : Dev Cert.Kernel.nD,
    (Cert.Pre_no_tie_Kernel.fn (F := Bits) (m ((c.tc : Thread Cert.Kernel.nD Cert.Kernel.τ).loc Cert.Kernel.main_arg0))) = (fun _ => 1#1)

def Pre_KernelIdeal [hPre_no_tie_Kernel : Cert.Pre_no_tie_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_Kernel.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_ReferenceIdeal [hPre_no_tie_ReferenceIdeal : Cert.Pre_no_tie_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_no_tie_Kernel [hKernel : Cert.Kernel.Facts] [hPre_no_tie_Kernel : Cert.Pre_no_tie_Kernel.Facts] : Prop :=
  ∀ (m : (ℓ : Loc Cert.Kernel.nD Cert.Kernel.τ Cert.Kernel.sig) → Buf (Elt Bits) ℓ) (g : Dev Cert.Kernel.nD → PrngReg), Pre_Kernel_no_tie_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_tie_ReferenceIdeal [hReferenceIdeal : Cert.ReferenceIdeal.Facts] [hPre_no_tie_ReferenceIdeal : Cert.Pre_no_tie_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_tie_Kernel : Cert.Pre_no_tie_Kernel.Facts) (hPre_no_tie_ReferenceIdeal : Cert.Pre_no_tie_ReferenceIdeal.Facts),
    quiescent_Kernel (hKernel := hKernel)
    ∧ quiescent_Kernel_pre_no_tie_Kernel (hKernel := hKernel) (hPre_no_tie_Kernel := hPre_no_tie_Kernel)
    ∧ quiescent_KernelIdeal (hKernelIdeal := hKernelIdeal) (hPre_no_tie_Kernel := hPre_no_tie_Kernel)
    ∧ quiescent_ReferenceIdeal (hReferenceIdeal := hReferenceIdeal)
    ∧ quiescent_ReferenceIdeal_pre_no_tie_ReferenceIdeal (hReferenceIdeal := hReferenceIdeal) (hPre_no_tie_ReferenceIdeal := hPre_no_tie_ReferenceIdeal)
    ∧ preserves_Kernel_KernelIdeal
    ∧ algebraic_KernelIdeal_ReferenceIdeal (hKernelIdeal := hKernelIdeal) (hReferenceIdeal := hReferenceIdeal) (hPre_no_tie_Kernel := hPre_no_tie_Kernel)
-- ==== Pre_no_tie_Kernel.lean ====
abbrev S4096x1024 : Shape := ⟨2, ![4096, 1024]⟩
abbrev S8x512x1024 : Shape := ⟨3, ![8, 512, 1024]⟩
abbrev S_ : Shape := ⟨0, ![]⟩
abbrev S8x1024 : Shape := ⟨2, ![8, 1024]⟩
abbrev S8x1x1024 : Shape := ⟨3, ![8, 1, 1024]⟩

class Facts : Prop where
  shapeCasts_S4096x1024_S8x512x1024 : S4096x1024.ShapeCasts S8x512x1024
  reducesTo_S8x512x1024_S8x1024_d1 : S8x512x1024.ReducesTo [1] S8x1024
  h_S_ : 0 < S_.numel
  bcast_S8x1024_S8x1x1024_0_2 : S8x1024.BroadcastsInDim S8x1x1024 (![0, 2] : Fin 2 → Fin S8x1x1024.rank)
  bcast_S8x1x1024_S8x512x1024_0_1_2 : S8x1x1024.BroadcastsInDim S8x512x1024 (![0, 1, 2] : Fin 3 → Fin S8x512x1024.rank)
  natLt_1_32 : 1 < 32
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S4096x1024 .f32) : IVec S_ 1 :=
  let main_v0 : FVec F S8x512x1024 .f32 := shapeCast S8x512x1024 main_arg0 shapeCasts_S4096x1024_S8x512x1024
  let main_cst : FVec F S_ .f32 := constant S_ .f32 0xFF800000#32
  let main_v1 : FVec F S8x1024 .f32 := (fun x v => Host.reduce FloatOps.maximumf x v reducesTo_S8x512x1024_S8x1024_d1 h_S_) main_v0 main_cst
  let main_v2 : FVec F S8x1x1024 .f32 := broadcastInDim S8x1x1024 ![0, 2] bcast_S8x1024_S8x1x1024_0_2 main_v1
  let main_v3 : FVec F S8x512x1024 .f32 := broadcastInDim S8x512x1024 ![0, 1, 2] bcast_S8x1x1024_S8x512x1024_0_1_2 main_v2
  let main_v4 : IVec S8x512x1024 1 := cmpf .oeq main_v0 main_v3
  let main_v5 : IVec S8x512x1024 32 := (extui 32 · natLt_1_32) main_v4
  let main_c : IVec S_ 32 := constantI S_ 32 0#32
  let main_v6 : IVec S8x1024 32 := (fun x v => Host.reduce IntOp.addi x v reducesTo_S8x512x1024_S8x1024_d1 h_S_) main_v5 main_c
  let main_c_0 : IVec S_ 32 := constantI S_ 32 1#32
  let main_v7 : IVec S8x1024 32 := broadcastInDim S8x1024 ![] bcast_S_S8x1024 main_c_0
  let main_v8 : IVec S8x1024 1 := cmpi .sle main_v6 main_v7
  let main_c_1 : IVec S_ 1 := constantI S_ 1 1#1
  let main_v9 : IVec S_ 1 := (fun x v => Host.reduce IntOp.andi x v reducesTo_S8x1024_S_d0_1 h_S_) main_v8 main_c_1
  main_v9
-- ==== Pre_no_tie_ReferenceIdeal.lean ====
abbrev S65536x1024 : Shape := ⟨2, ![65536, 1024]⟩
abbrev S128x512x1024 : Shape := ⟨3, ![128, 512, 1024]⟩
abbrev S_ : Shape := ⟨0, ![]⟩
abbrev S128x1024 : Shape := ⟨2, ![128, 1024]⟩
abbrev S128x1x1024 : Shape := ⟨3, ![128, 1, 1024]⟩

class Facts : Prop where
  shapeCasts_S65536x1024_S128x512x1024 : S65536x1024.ShapeCasts S128x512x1024
  reducesTo_S128x512x1024_S128x1024_d1 : S128x512x1024.ReducesTo [1] S128x1024
  h_S_ : 0 < S_.numel
  bcast_S128x1024_S128x1x1024_0_2 : S128x1024.BroadcastsInDim S128x1x1024 (![0, 2] : Fin 2 → Fin S128x1x1024.rank)
  bcast_S128x1x1024_S128x512x1024_0_1_2 : S128x1x1024.BroadcastsInDim S128x512x1024 (![0, 1, 2] : Fin 3 → Fin S128x512x1024.rank)
  natLt_1_32 : 1 < 32
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S65536x1024 .f32) : IVec S_ 1 :=
  let main_v0 : FVec F S128x512x1024 .f32 := shapeCast S128x512x1024 main_arg0 shapeCasts_S65536x1024_S128x512x1024
  let main_cst : FVec F S_ .f32 := constant S_ .f32 0xFF800000#32
  let main_v1 : FVec F S128x1024 .f32 := (fun x v => Host.reduce FloatOps.maximumf x v reducesTo_S128x512x1024_S128x1024_d1 h_S_) main_v0 main_cst
  let main_v2 : FVec F S128x1x1024 .f32 := broadcastInDim S128x1x1024 ![0, 2] bcast_S128x1024_S128x1x1024_0_2 main_v1
  let main_v3 : FVec F S128x512x1024 .f32 := broadcastInDim S128x512x1024 ![0, 1, 2] bcast_S128x1x1024_S128x512x1024_0_1_2 main_v2
  let main_v4 : IVec S128x512x1024 1 := cmpf .oeq main_v0 main_v3
  let main_v5 : IVec S128x512x1024 32 := (extui 32 · natLt_1_32) main_v4
  let main_c : IVec S_ 32 := constantI S_ 32 0#32
  let main_v6 : IVec S128x1024 32 := (fun x v => Host.reduce IntOp.addi x v reducesTo_S128x512x1024_S128x1024_d1 h_S_) main_v5 main_c
  let main_c_0 : IVec S_ 32 := constantI S_ 32 1#32
  let main_v7 : IVec S128x1024 32 := broadcastInDim S128x1024 ![] bcast_S_S128x1024 main_c_0
  let main_v8 : IVec S128x1024 1 := cmpi .sle main_v6 main_v7
  let main_c_1 : IVec S_ 1 := constantI S_ 1 1#1
  let main_v9 : IVec S_ 1 := (fun x v => Host.reduce IntOp.andi x v reducesTo_S128x1024_S_d0_1 h_S_) main_v8 main_c_1
  main_v9
-- ==== Kernel.lean ====
abbrev S4096x1024 : Shape := ⟨2, ![4096, 1024]⟩
abbrev S2x1024 : Shape := ⟨2, ![2, 1024]⟩
abbrev S512x1024 : Shape := ⟨2, ![512, 1024]⟩
abbrev S2x16x2x1024 : Shape := ⟨4, ![2, 16, 2, 1024]⟩
abbrev S2x16 : Shape := ⟨2, ![2, 16]⟩
abbrev S_ : Shape := ⟨0, ![]⟩
abbrev S1024 : Shape := ⟨1, ![1024]⟩
abbrev S1x1x1x1024 : Shape := ⟨4, ![1, 1, 1, 1024]⟩
abbrev S1x1 : Shape := ⟨2, ![1, 1]⟩
abbrev S1x1x2x1024 : Shape := ⟨4, ![1, 1, 2, 1024]⟩
abbrev S2x16x1x1024 : Shape := ⟨4, ![2, 16, 1, 1024]⟩
abbrev S2x16x1024 : Shape := ⟨3, ![2, 16, 1024]⟩
abbrev S32x1024 : Shape := ⟨2, ![32, 1024]⟩
abbrev S1x1024 : Shape := ⟨2, ![1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S2x16x2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 16
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let v76 : BitVec 32 := Scalar.addi v2 c1_i32_32
  let c16_i32_33 : BitVec 32 := 16#32
  let c0_i32_34 : BitVec 32 := 0#32
  let v77 : BitVec 1 := Scalar.cmpi .eq c16_i32_33 c0_i32_34
  let c1_i32_35 : BitVec 32 := 1#32
  let v78 : BitVec 32 := Scalar.select v77 c1_i32_35 c16_i32_33
  let v79 : BitVec 32 := Scalar.remsi v76 v78
  let c0_i32_37 : BitVec 32 := 0#32
  let v81 : BitVec 1 := Scalar.cmpi .slt v79 c0_i32_37
  let c0_i32_38 : BitVec 32 := 0#32
  let v82 : BitVec 1 := Scalar.cmpi .slt v78 c0_i32_38
  let v83 : BitVec 1 := Scalar.xori v81 v82
  let c0_i32_36 : BitVec 32 := 0#32
  let v80 : BitVec 1 := Scalar.cmpi .ne v79 c0_i32_36
  let v84 : BitVec 1 := Scalar.andi v83 v80
  let v85 : BitVec 32 := Scalar.addi v79 v78
  let v86 : BitVec 32 := Scalar.select v84 v85 v79
  let c1_i32_40 : BitVec 32 := 1#32
  let v87 : BitVec 32 := Scalar.muli v86 c1_i32_40
  let v88 : BitVec 32 := Scalar.addi c0_i32_41 v87
  v88.toNat
def k0_dev2 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v89 : BitVec 32 := Scalar.addi v2 c2_i32
  let c16_i32_42 : BitVec 32 := 16#32
  let c0_i32_43 : BitVec 32 := 0#32
  let v90 : BitVec 1 := Scalar.cmpi .eq c16_i32_42 c0_i32_43
  let c1_i32_44 : BitVec 32 := 1#32
  let v91 : BitVec 32 := Scalar.select v90 c1_i32_44 c16_i32_42
  let v92 : BitVec 32 := Scalar.remsi v89 v91
  let c0_i32_46 : BitVec 32 := 0#32
  let v94 : BitVec 1 := Scalar.cmpi .slt v92 c0_i32_46
  let c0_i32_47 : BitVec 32 := 0#32
  let v95 : BitVec 1 := Scalar.cmpi .slt v91 c0_i32_47
  let v96 : BitVec 1 := Scalar.xori v94 v95
  let c0_i32_45 : BitVec 32 := 0#32
  let v93 : BitVec 1 := Scalar.cmpi .ne v92 c0_i32_45
  let v97 : BitVec 1 := Scalar.andi v96 v93
  let v98 : BitVec 32 := Scalar.addi v92 v91
  let v99 : BitVec 32 := Scalar.select v97 v98 v92
  let c1_i32_49 : BitVec 32 := 1#32
  let v100 : BitVec 32 := Scalar.muli v99 c1_i32_49
  let v101 : BitVec 32 := Scalar.addi c0_i32_50 v100
  v101.toNat
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_51 : BitVec 32 := 3#32
  let v102 : BitVec 32 := Scalar.addi v2 c3_i32_51
  let c16_i32_52 : BitVec 32 := 16#32
  let c0_i32_53 : BitVec 32 := 0#32
  let v103 : BitVec 1 := Scalar.cmpi .eq c16_i32_52 c0_i32_53
  let c1_i32_54 : BitVec 32 := 1#32
  let v104 : BitVec 32 := Scalar.select v103 c1_i32_54 c16_i32_52
  let v105 : BitVec 32 := Scalar.remsi v102 v104
  let c0_i32_56 : BitVec 32 := 0#32
  let v107 : BitVec 1 := Scalar.cmpi .slt v105 c0_i32_56
  let c0_i32_57 : BitVec 32 := 0#32
  let v108 : BitVec 1 := Scalar.cmpi .slt v104 c0_i32_57
  let v109 : BitVec 1 := Scalar.xori v107 v108
  let c0_i32_55 : BitVec 32 := 0#32
  let v106 : BitVec 1 := Scalar.cmpi .ne v105 c0_i32_55
  let v110 : BitVec 1 := Scalar.andi v109 v106
  let v111 : BitVec 32 := Scalar.addi v105 v104
  let v112 : BitVec 32 := Scalar.select v110 v111 v105
  let c1_i32_59 : BitVec 32 := 1#32
  let v113 : BitVec 32 := Scalar.muli v112 c1_i32_59
  let v114 : BitVec 32 := Scalar.addi c0_i32_60 v113
  v114.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_61 : BitVec 32 := 4#32
  let v115 : BitVec 32 := Scalar.addi v2 c4_i32_61
  let c16_i32_62 : BitVec 32 := 16#32
  let c0_i32_63 : BitVec 32 := 0#32
  let v116 : BitVec 1 := Scalar.cmpi .eq c16_i32_62 c0_i32_63
  let c1_i32_64 : BitVec 32 := 1#32
  let v117 : BitVec 32 := Scalar.select v116 c1_i32_64 c16_i32_62
  let v118 : BitVec 32 := Scalar.remsi v115 v117
  let c0_i32_66 : BitVec 32 := 0#32
  let v120 : BitVec 1 := Scalar.cmpi .slt v118 c0_i32_66
  let c0_i32_67 : BitVec 32 := 0#32
  let v121 : BitVec 1 := Scalar.cmpi .slt v117 c0_i32_67
  let v122 : BitVec 1 := Scalar.xori v120 v121
  let c0_i32_65 : BitVec 32 := 0#32
  let v119 : BitVec 1 := Scalar.cmpi .ne v118 c0_i32_65
  let v123 : BitVec 1 := Scalar.andi v122 v119
  let v124 : BitVec 32 := Scalar.addi v118 v117
  let v125 : BitVec 32 := Scalar.select v123 v124 v118
  let c1_i32_69 : BitVec 32 := 1#32
  let v126 : BitVec 32 := Scalar.muli v125 c1_i32_69
  let v127 : BitVec 32 := Scalar.addi c0_i32_70 v126
  v127.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v128 : BitVec 32 := Scalar.addi v2 c5_i32
  let c16_i32_71 : BitVec 32 := 16#32
  let c0_i32_72 : BitVec 32 := 0#32
  let v129 : BitVec 1 := Scalar.cmpi .eq c16_i32_71 c0_i32_72
  let c1_i32_73 : BitVec 32 := 1#32
  let v130 : BitVec 32 := Scalar.select v129 c1_i32_73 c16_i32_71
  let v131 : BitVec 32 := Scalar.remsi v128 v130
  let c0_i32_75 : BitVec 32 := 0#32
  let v133 : BitVec 1 := Scalar.cmpi .slt v131 c0_i32_75
  let c0_i32_76 : BitVec 32 := 0#32
  let v134 : BitVec 1 := Scalar.cmpi .slt v130 c0_i32_76
  let v135 : BitVec 1 := Scalar.xori v133 v134
  let c0_i32_74 : BitVec 32 := 0#32
  let v132 : BitVec 1 := Scalar.cmpi .ne v131 c0_i32_74
  let v136 : BitVec 1 := Scalar.andi v135 v132
  let v137 : BitVec 32 := Scalar.addi v131 v130
  let v138 : BitVec 32 := Scalar.select v136 v137 v131
  let c1_i32_78 : BitVec 32 := 1#32
  let v139 : BitVec 32 := Scalar.muli v138 c1_i32_78
  let v140 : BitVec 32 := Scalar.addi c0_i32_79 v139
  v140.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v141 : BitVec 32 := Scalar.addi v2 c6_i32
  let c16_i32_80 : BitVec 32 := 16#32
  let c0_i32_81 : BitVec 32 := 0#32
  let v142 : BitVec 1 := Scalar.cmpi .eq c16_i32_80 c0_i32_81
  let c1_i32_82 : BitVec 32 := 1#32
  let v143 : BitVec 32 := Scalar.select v142 c1_i32_82 c16_i32_80
  let v144 : BitVec 32 := Scalar.remsi v141 v143
  let c0_i32_84 : BitVec 32 := 0#32
  let v146 : BitVec 1 := Scalar.cmpi .slt v144 c0_i32_84
  let c0_i32_85 : BitVec 32 := 0#32
  let v147 : BitVec 1 := Scalar.cmpi .slt v143 c0_i32_85
  let v148 : BitVec 1 := Scalar.xori v146 v147
  let c0_i32_83 : BitVec 32 := 0#32
  let v145 : BitVec 1 := Scalar.cmpi .ne v144 c0_i32_83
  let v149 : BitVec 1 := Scalar.andi v148 v145
  let v150 : BitVec 32 := Scalar.addi v144 v143
  let v151 : BitVec 32 := Scalar.select v149 v150 v144
  let c1_i32_87 : BitVec 32 := 1#32
  let v152 : BitVec 32 := Scalar.muli v151 c1_i32_87
  let v153 : BitVec 32 := Scalar.addi c0_i32_88 v152
  v153.toNat
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_89 : BitVec 32 := 7#32
  let v154 : BitVec 32 := Scalar.addi v2 c7_i32_89
  let c16_i32_90 : BitVec 32 := 16#32
  let c0_i32_91 : BitVec 32 := 0#32
  let v155 : BitVec 1 := Scalar.cmpi .eq c16_i32_90 c0_i32_91
  let c1_i32_92 : BitVec 32 := 1#32
  let v156 : BitVec 32 := Scalar.select v155 c1_i32_92 c16_i32_90
  let v157 : BitVec 32 := Scalar.remsi v154 v156
  let c0_i32_94 : BitVec 32 := 0#32
  let v159 : BitVec 1 := Scalar.cmpi .slt v157 c0_i32_94
  let c0_i32_95 : BitVec 32 := 0#32
  let v160 : BitVec 1 := Scalar.cmpi .slt v156 c0_i32_95
  let v161 : BitVec 1 := Scalar.xori v159 v160
  let c0_i32_93 : BitVec 32 := 0#32
  let v158 : BitVec 1 := Scalar.cmpi .ne v157 c0_i32_93
  let v162 : BitVec 1 := Scalar.andi v161 v158
  let v163 : BitVec 32 := Scalar.addi v157 v156
  let v164 : BitVec 32 := Scalar.select v162 v163 v157
  let c1_i32_97 : BitVec 32 := 1#32
  let v165 : BitVec 32 := Scalar.muli v164 c1_i32_97
  let v166 : BitVec 32 := Scalar.addi c0_i32_98 v165
  v166.toNat
def k0_dev8 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v167 : BitVec 32 := Scalar.addi v2 c8_i32
  let c16_i32_99 : BitVec 32 := 16#32
  let c0_i32_100 : BitVec 32 := 0#32
  let v168 : BitVec 1 := Scalar.cmpi .eq c16_i32_99 c0_i32_100
  let c1_i32_101 : BitVec 32 := 1#32
  let v169 : BitVec 32 := Scalar.select v168 c1_i32_101 c16_i32_99
  let v170 : BitVec 32 := Scalar.remsi v167 v169
  let c0_i32_103 : BitVec 32 := 0#32
  let v172 : BitVec 1 := Scalar.cmpi .slt v170 c0_i32_103
  let c0_i32_104 : BitVec 32 := 0#32
  let v173 : BitVec 1 := Scalar.cmpi .slt v169 c0_i32_104
  let v174 : BitVec 1 := Scalar.xori v172 v173
  let c0_i32_102 : BitVec 32 := 0#32
  let v171 : BitVec 1 := Scalar.cmpi .ne v170 c0_i32_102
  let v175 : BitVec 1 := Scalar.andi v174 v171
  let v176 : BitVec 32 := Scalar.addi v170 v169
  let v177 : BitVec 32 := Scalar.select v175 v176 v170
  let c1_i32_106 : BitVec 32 := 1#32
  let v178 : BitVec 32 := Scalar.muli v177 c1_i32_106
  let v179 : BitVec 32 := Scalar.addi c0_i32_107 v178
  v179.toNat
def k0_dev9 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v180 : BitVec 32 := Scalar.addi v2 c9_i32
  let c16_i32_108 : BitVec 32 := 16#32
  let c0_i32_109 : BitVec 32 := 0#32
  let v181 : BitVec 1 := Scalar.cmpi .eq c16_i32_108 c0_i32_109
  let c1_i32_110 : BitVec 32 := 1#32
  let v182 : BitVec 32 := Scalar.select v181 c1_i32_110 c16_i32_108
  let v183 : BitVec 32 := Scalar.remsi v180 v182
  let c0_i32_112 : BitVec 32 := 0#32
  let v185 : BitVec 1 := Scalar.cmpi .slt v183 c0_i32_112
  let c0_i32_113 : BitVec 32 := 0#32
  let v186 : BitVec 1 := Scalar.cmpi .slt v182 c0_i32_113
  let v187 : BitVec 1 := Scalar.xori v185 v186
  let c0_i32_111 : BitVec 32 := 0#32
  let v184 : BitVec 1 := Scalar.cmpi .ne v183 c0_i32_111
  let v188 : BitVec 1 := Scalar.andi v187 v184
  let v189 : BitVec 32 := Scalar.addi v183 v182
  let v190 : BitVec 32 := Scalar.select v188 v189 v183
  let c1_i32_115 : BitVec 32 := 1#32
  let v191 : BitVec 32 := Scalar.muli v190 c1_i32_115
  let v192 : BitVec 32 := Scalar.addi c0_i32_116 v191
  v192.toNat
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v193 : BitVec 32 := Scalar.addi v2 c10_i32
  let c16_i32_117 : BitVec 32 := 16#32
  let c0_i32_118 : BitVec 32 := 0#32
  let v194 : BitVec 1 := Scalar.cmpi .eq c16_i32_117 c0_i32_118
  let c1_i32_119 : BitVec 32 := 1#32
  let v195 : BitVec 32 := Scalar.select v194 c1_i32_119 c16_i32_117
  let v196 : BitVec 32 := Scalar.remsi v193 v195
  let c0_i32_121 : BitVec 32 := 0#32
  let v198 : BitVec 1 := Scalar.cmpi .slt v196 c0_i32_121
  let c0_i32_122 : BitVec 32 := 0#32
  let v199 : BitVec 1 := Scalar.cmpi .slt v195 c0_i32_122
  let v200 : BitVec 1 := Scalar.xori v198 v199
  let c0_i32_120 : BitVec 32 := 0#32
  let v197 : BitVec 1 := Scalar.cmpi .ne v196 c0_i32_120
  let v201 : BitVec 1 := Scalar.andi v200 v197
  let v202 : BitVec 32 := Scalar.addi v196 v195
  let v203 : BitVec 32 := Scalar.select v201 v202 v196
  let c1_i32_124 : BitVec 32 := 1#32
  let v204 : BitVec 32 := Scalar.muli v203 c1_i32_124
  let v205 : BitVec 32 := Scalar.addi c0_i32_125 v204
  v205.toNat
def k0_dev11 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v206 : BitVec 32 := Scalar.addi v2 c11_i32
  let c16_i32_126 : BitVec 32 := 16#32
  let c0_i32_127 : BitVec 32 := 0#32
  let v207 : BitVec 1 := Scalar.cmpi .eq c16_i32_126 c0_i32_127
  let c1_i32_128 : BitVec 32 := 1#32
  let v208 : BitVec 32 := Scalar.select v207 c1_i32_128 c16_i32_126
  let v209 : BitVec 32 := Scalar.remsi v206 v208
  let c0_i32_130 : BitVec 32 := 0#32
  let v211 : BitVec 1 := Scalar.cmpi .slt v209 c0_i32_130
  let c0_i32_131 : BitVec 32 := 0#32
  let v212 : BitVec 1 := Scalar.cmpi .slt v208 c0_i32_131
  let v213 : BitVec 1 := Scalar.xori v211 v212
  let c0_i32_129 : BitVec 32 := 0#32
  let v210 : BitVec 1 := Scalar.cmpi .ne v209 c0_i32_129
  let v214 : BitVec 1 := Scalar.andi v213 v210
  let v215 : BitVec 32 := Scalar.addi v209 v208
  let v216 : BitVec 32 := Scalar.select v214 v215 v209
  let c1_i32_133 : BitVec 32 := 1#32
  let v217 : BitVec 32 := Scalar.muli v216 c1_i32_133
  let v218 : BitVec 32 := Scalar.addi c0_i32_134 v217
  v218.toNat
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v219 : BitVec 32 := Scalar.addi v2 c12_i32
  let c16_i32_135 : BitVec 32 := 16#32
  let c0_i32_136 : BitVec 32 := 0#32
  let v220 : BitVec 1 := Scalar.cmpi .eq c16_i32_135 c0_i32_136
  let c1_i32_137 : BitVec 32 := 1#32
  let v221 : BitVec 32 := Scalar.select v220 c1_i32_137 c16_i32_135
  let v222 : BitVec 32 := Scalar.remsi v219 v221
  let c0_i32_139 : BitVec 32 := 0#32
  let v224 : BitVec 1 := Scalar.cmpi .slt v222 c0_i32_139
  let c0_i32_140 : BitVec 32 := 0#32
  let v225 : BitVec 1 := Scalar.cmpi .slt v221 c0_i32_140
  let v226 : BitVec 1 := Scalar.xori v224 v225
  let c0_i32_138 : BitVec 32 := 0#32
  let v223 : BitVec 1 := Scalar.cmpi .ne v222 c0_i32_138
  let v227 : BitVec 1 := Scalar.andi v226 v223
  let v228 : BitVec 32 := Scalar.addi v222 v221
  let v229 : BitVec 32 := Scalar.select v227 v228 v222
  let c1_i32_142 : BitVec 32 := 1#32
  let v230 : BitVec 32 := Scalar.muli v229 c1_i32_142
  let v231 : BitVec 32 := Scalar.addi c0_i32_143 v230
  v231.toNat
def k0_dev13 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v232 : BitVec 32 := Scalar.addi v2 c13_i32
  let c16_i32_144 : BitVec 32 := 16#32
  let c0_i32_145 : BitVec 32 := 0#32
  let v233 : BitVec 1 := Scalar.cmpi .eq c16_i32_144 c0_i32_145
  let c1_i32_146 : BitVec 32 := 1#32
  let v234 : BitVec 32 := Scalar.select v233 c1_i32_146 c16_i32_144
  let v235 : BitVec 32 := Scalar.remsi v232 v234
  let c0_i32_148 : BitVec 32 := 0#32
  let v237 : BitVec 1 := Scalar.cmpi .slt v235 c0_i32_148
  let c0_i32_149 : BitVec 32 := 0#32
  let v238 : BitVec 1 := Scalar.cmpi .slt v234 c0_i32_149
  let v239 : BitVec 1 := Scalar.xori v237 v238
  let c0_i32_147 : BitVec 32 := 0#32
  let v236 : BitVec 1 := Scalar.cmpi .ne v235 c0_i32_147
  let v240 : BitVec 1 := Scalar.andi v239 v236
  let v241 : BitVec 32 := Scalar.addi v235 v234
  let v242 : BitVec 32 := Scalar.select v240 v241 v235
  let c1_i32_151 : BitVec 32 := 1#32
  let v243 : BitVec 32 := Scalar.muli v242 c1_i32_151
  let v244 : BitVec 32 := Scalar.addi c0_i32_152 v243
  v244.toNat
def k0_dev14 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v245 : BitVec 32 := Scalar.addi v2 c14_i32
  let c16_i32_153 : BitVec 32 := 16#32
  let c0_i32_154 : BitVec 32 := 0#32
  let v246 : BitVec 1 := Scalar.cmpi .eq c16_i32_153 c0_i32_154
  let c1_i32_155 : BitVec 32 := 1#32
  let v247 : BitVec 32 := Scalar.select v246 c1_i32_155 c16_i32_153
  let v248 : BitVec 32 := Scalar.remsi v245 v247
  let c0_i32_157 : BitVec 32 := 0#32
  let v250 : BitVec 1 := Scalar.cmpi .slt v248 c0_i32_157
  let c0_i32_158 : BitVec 32 := 0#32
  let v251 : BitVec 1 := Scalar.cmpi .slt v247 c0_i32_158
  let v252 : BitVec 1 := Scalar.xori v250 v251
  let c0_i32_156 : BitVec 32 := 0#32
  let v249 : BitVec 1 := Scalar.cmpi .ne v248 c0_i32_156
  let v253 : BitVec 1 := Scalar.andi v252 v249
  let v254 : BitVec 32 := Scalar.addi v248 v247
  let v255 : BitVec 32 := Scalar.select v253 v254 v248
  let c1_i32_160 : BitVec 32 := 1#32
  let v256 : BitVec 32 := Scalar.muli v255 c1_i32_160
  let v257 : BitVec 32 := Scalar.addi c0_i32_161 v256
  v257.toNat
def k0_dev15 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v258 : BitVec 32 := Scalar.addi v2 c15_i32
  let c16_i32_162 : BitVec 32 := 16#32
  let c0_i32_163 : BitVec 32 := 0#32
  let v259 : BitVec 1 := Scalar.cmpi .eq c16_i32_162 c0_i32_163
  let c1_i32_164 : BitVec 32 := 1#32
  let v260 : BitVec 32 := Scalar.select v259 c1_i32_164 c16_i32_162
  let v261 : BitVec 32 := Scalar.remsi v258 v260
  let c0_i32_166 : BitVec 32 := 0#32
  let v263 : BitVec 1 := Scalar.cmpi .slt v261 c0_i32_166
  let c0_i32_167 : BitVec 32 := 0#32
  let v264 : BitVec 1 := Scalar.cmpi .slt v260 c0_i32_167
  let v265 : BitVec 1 := Scalar.xori v263 v264
  let c0_i32_165 : BitVec 32 := 0#32
  let v262 : BitVec 1 := Scalar.cmpi .ne v261 c0_i32_165
  let v266 : BitVec 1 := Scalar.andi v265 v262
  let v267 : BitVec 32 := Scalar.addi v261 v260
  let v268 : BitVec 32 := Scalar.select v266 v267 v261
  let c1_i32_169 : BitVec 32 := 1#32
  let v269 : BitVec 32 := Scalar.muli v268 c1_i32_169
  let v270 : BitVec 32 := Scalar.addi c0_i32_170 v269
  v270.toNat
def k0_cond2 (i : grid0.Coords) : BitVec 1 :=
  let arg0 : BitVec 32 := BitVec.ofNat 32 (i 0).val
  let c4_i32_8 : BitVec 32 := 4#32
  let c0_i32_9 : BitVec 32 := 0#32
  let v34 : BitVec 1 := Scalar.cmpi .eq c4_i32_8 c0_i32_9
  let c1_i32_10 : BitVec 32 := 1#32
  let v35 : BitVec 32 := Scalar.select v34 c1_i32_10 c4_i32_8
  let v36 : BitVec 32 := Scalar.remsi arg0 v35
  let c0_i32_12 : BitVec 32 := 0#32
  let v38 : BitVec 1 := Scalar.cmpi .slt v36 c0_i32_12
  let c0_i32_13 : BitVec 32 := 0#32
  let v39 : BitVec 1 := Scalar.cmpi .slt v35 c0_i32_13
  let v40 : BitVec 1 := Scalar.xori v38 v39
  let c0_i32_11 : BitVec 32 := 0#32
  let v37 : BitVec 1 := Scalar.cmpi .ne v36 c0_i32_11
  let v41 : BitVec 1 := Scalar.andi v40 v37
  let v42 : BitVec 32 := Scalar.addi v36 v35
  let v43 : BitVec 32 := Scalar.select v41 v42 v36
  let c0_i32_14 : BitVec 32 := 0#32
  let v44 : BitVec 1 := Scalar.cmpi .eq v43 c0_i32_14
  let v45 : BitVec 32 := Scalar.extui v44
  let c0_i32_15 : BitVec 32 := 0#32
  let v46 : BitVec 1 := Scalar.cmpi .ne v45 c0_i32_15
  v46

def k0_off1 (i : grid0.Coords) : Fin 4 → Nat :=
  let arg0 : BitVec 32 := BitVec.ofNat 32 (i 0).val
  let c0_i32_2 : BitVec 32 := 0#32
  let v18 : BitVec 1 := Scalar.cmpi .sgt arg0 c0_i32_2
  let v19 : BitVec 32 := Scalar.extui v18
  let c0_i32_3 : BitVec 32 := 0#32
  let v20 : BitVec 1 := Scalar.cmpi .slt arg0 c0_i32_3
  let v21 : BitVec 32 := Scalar.extui v20
  let v22 : BitVec 32 := Scalar.subi v19 v21
  let c4_i32 : BitVec 32 := 4#32
  let c0_i32_4 : BitVec 32 := 0#32
  let v23 : BitVec 1 := Scalar.cmpi .sgt c4_i32 c0_i32_4
  let v24 : BitVec 32 := Scalar.extui v23
  let c0_i32_5 : BitVec 32 := 0#32
  let v25 : BitVec 1 := Scalar.cmpi .slt c4_i32 c0_i32_5
  let v26 : BitVec 32 := Scalar.extui v25
  let v27 : BitVec 32 := Scalar.subi v24 v26
  let v28 : BitVec 1 := Scalar.cmpi .ne v22 v27
  let v29 : BitVec 32 := Scalar.remsi arg0 c4_i32
  let c0_i32_6 : BitVec 32 := 0#32
  let v30 : BitVec 1 := Scalar.cmpi .ne v29 c0_i32_6
  let v31 : BitVec 1 := Scalar.andi v28 v30
  let v17 : BitVec 32 := Scalar.divsi arg0 c4_i32
  let c1_i32_7 : BitVec 32 := 1#32
  let v32 : BitVec 32 := Scalar.subi v17 c1_i32_7
  let v33 : BitVec 32 := Scalar.select v31 v32 v17
  let v76 : Index := Scalar.indexCast v33
  let c0_32 : Index := 0#32
  let c0_33 : Index := 0#32
  let c0_34 : Index := 0#32
  ![v76.toNat, 0, 0, 0]
def k0_off2 (i : grid0.Coords) : Fin 4 → Nat :=
  let arg0 : BitVec 32 := BitVec.ofNat 32 (i 0).val
  let c0_i32_2 : BitVec 32 := 0#32
  let v18 : BitVec 1 := Scalar.cmpi .sgt arg0 c0_i32_2
  let v19 : BitVec 32 := Scalar.extui v18
  let c0_i32_3 : BitVec 32 := 0#32
  let v20 : BitVec 1 := Scalar.cmpi .slt arg0 c0_i32_3
  let v21 : BitVec 32 := Scalar.extui v20
  let v22 : BitVec 32 := Scalar.subi v19 v21
  let c4_i32 : BitVec 32 := 4#32
  let c0_i32_4 : BitVec 32 := 0#32
  let v23 : BitVec 1 := Scalar.cmpi .sgt c4_i32 c0_i32_4
  let v24 : BitVec 32 := Scalar.extui v23
  let c0_i32_5 : BitVec 32 := 0#32
  let v25 : BitVec 1 := Scalar.cmpi .slt c4_i32 c0_i32_5
  let v26 : BitVec 32 := Scalar.extui v25
  let v27 : BitVec 32 := Scalar.subi v24 v26
  let v28 : BitVec 1 := Scalar.cmpi .ne v22 v27
  let v29 : BitVec 32 := Scalar.remsi arg0 c4_i32
  let c0_i32_6 : BitVec 32 := 0#32
  let v30 : BitVec 1 := Scalar.cmpi .ne v29 c0_i32_6
  let v31 : BitVec 1 := Scalar.andi v28 v30
  let v17 : BitVec 32 := Scalar.divsi arg0 c4_i32
  let c1_i32_7 : BitVec 32 := 1#32
  let v32 : BitVec 32 := Scalar.subi v17 c1_i32_7
  let v33 : BitVec 32 := Scalar.select v31 v32 v17
  let v80 : Index := Scalar.indexCast v33
  let c0_35 : Index := 0#32
  let c1 : Index := 1#32
  let c0_36 : Index := 0#32
  ![v80.toNat, 0, 1, 0]
def k0_cond3 (i : grid0.Coords) : BitVec 1 :=
  let arg0 : BitVec 32 := BitVec.ofNat 32 (i 0).val
  let c4_i32_16 : BitVec 32 := 4#32
  let c0_i32_17 : BitVec 32 := 0#32
  let v47 : BitVec 1 := Scalar.cmpi .eq c4_i32_16 c0_i32_17
  let c1_i32_18 : BitVec 32 := 1#32
  let v48 : BitVec 32 := Scalar.select v47 c1_i32_18 c4_i32_16
  let v49 : BitVec 32 := Scalar.remsi arg0 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c0_i32_22 : BitVec 32 := 0#32
  let v57 : BitVec 1 := Scalar.cmpi .sgt v56 c0_i32_22
  let v58 : BitVec 32 := Scalar.extui v57
  let c0_i32_23 : BitVec 32 := 0#32
  let v59 : BitVec 1 := Scalar.cmpi .ne v58 c0_i32_23
  v59

def k0_off3 (i : grid0.Coords) : Fin 4 → Nat :=
  let arg0 : BitVec 32 := BitVec.ofNat 32 (i 0).val
  let c0_i32_2 : BitVec 32 := 0#32
  let v18 : BitVec 1 := Scalar.cmpi .sgt arg0 c0_i32_2
  let v19 : BitVec 32 := Scalar.extui v18
  let c0_i32_3 : BitVec 32 := 0#32
  let v20 : BitVec 1 := Scalar.cmpi .slt arg0 c0_i32_3
  let v21 : BitVec 32 := Scalar.extui v20
  let v22 : BitVec 32 := Scalar.subi v19 v21
  let c4_i32 : BitVec 32 := 4#32
  let c0_i32_4 : BitVec 32 := 0#32
  let v23 : BitVec 1 := Scalar.cmpi .sgt c4_i32 c0_i32_4
  let v24 : BitVec 32 := Scalar.extui v23
  let c0_i32_5 : BitVec 32 := 0#32
  let v25 : BitVec 1 := Scalar.cmpi .slt c4_i32 c0_i32_5
  let v26 : BitVec 32 := Scalar.extui v25
  let v27 : BitVec 32 := Scalar.subi v24 v26
  let v28 : BitVec 1 := Scalar.cmpi .ne v22 v27
  let v29 : BitVec 32 := Scalar.remsi arg0 c4_i32
  let c0_i32_6 : BitVec 32 := 0#32
  let v30 : BitVec 1 := Scalar.cmpi .ne v29 c0_i32_6
  let v31 : BitVec 1 := Scalar.andi v28 v30
  let v17 : BitVec 32 := Scalar.divsi arg0 c4_i32
  let c1_i32_7 : BitVec 32 := 1#32
  let v32 : BitVec 32 := Scalar.subi v17 c1_i32_7
  let v33 : BitVec 32 := Scalar.select v31 v32 v17
  let v76 : Index := Scalar.indexCast v33
  let c0_32 : Index := 0#32
  let c0_33 : Index := 0#32
  let c0_34 : Index := 0#32
  ![v76.toNat, 0, 0, 0]
def k0_off4 (i : grid0.Coords) : Fin 4 → Nat :=
  let arg0 : BitVec 32 := BitVec.ofNat 32 (i 0).val
  let c0_i32_2 : BitVec 32 := 0#32
  let v18 : BitVec 1 := Scalar.cmpi .sgt arg0 c0_i32_2
  let v19 : BitVec 32 := Scalar.extui v18
  let c0_i32_3 : BitVec 32 := 0#32
  let v20 : BitVec 1 := Scalar.cmpi .slt arg0 c0_i32_3
  let v21 : BitVec 32 := Scalar.extui v20
  let v22 : BitVec 32 := Scalar.subi v19 v21
  let c4_i32 : BitVec 32 := 4#32
  let c0_i32_4 : BitVec 32 := 0#32
  let v23 : BitVec 1 := Scalar.cmpi .sgt c4_i32 c0_i32_4
  let v24 : BitVec 32 := Scalar.extui v23
  let c0_i32_5 : BitVec 32 := 0#32
  let v25 : BitVec 1 := Scalar.cmpi .slt c4_i32 c0_i32_5
  let v26 : BitVec 32 := Scalar.extui v25
  let v27 : BitVec 32 := Scalar.subi v24 v26
  let v28 : BitVec 1 := Scalar.cmpi .ne v22 v27
  let v29 : BitVec 32 := Scalar.remsi arg0 c4_i32
  let c0_i32_6 : BitVec 32 := 0#32
  let v30 : BitVec 1 := Scalar.cmpi .ne v29 c0_i32_6
  let v31 : BitVec 1 := Scalar.andi v28 v30
  let v17 : BitVec 32 := Scalar.divsi arg0 c4_i32
  let c1_i32_7 : BitVec 32 := 1#32
  let v32 : BitVec 32 := Scalar.subi v17 c1_i32_7
  let v33 : BitVec 32 := Scalar.select v31 v32 v17
  let v85 : Index := Scalar.indexCast v33
  let c0_38 : Index := 0#32
  let c1 : Index := 1#32
  let c0_39 : Index := 0#32
  ![v85.toNat, 0, 1, 0]
def k0_cond4 (i : grid0.Coords) : BitVec 1 :=
  let arg0 : BitVec 32 := BitVec.ofNat 32 (i 0).val
  let c4_i32_24 : BitVec 32 := 4#32
  let c0_i32_25 : BitVec 32 := 0#32
  let v60 : BitVec 1 := Scalar.cmpi .eq c4_i32_24 c0_i32_25
  let c1_i32_26 : BitVec 32 := 1#32
  let v61 : BitVec 32 := Scalar.select v60 c1_i32_26 c4_i32_24
  let v62 : BitVec 32 := Scalar.remsi arg0 v61
  let c0_i32_28 : BitVec 32 := 0#32
  let v64 : BitVec 1 := Scalar.cmpi .slt v62 c0_i32_28
  let c0_i32_29 : BitVec 32 := 0#32
  let v65 : BitVec 1 := Scalar.cmpi .slt v61 c0_i32_29
  let v66 : BitVec 1 := Scalar.xori v64 v65
  let c0_i32_27 : BitVec 32 := 0#32
  let v63 : BitVec 1 := Scalar.cmpi .ne v62 c0_i32_27
  let v67 : BitVec 1 := Scalar.andi v66 v63
  let v68 : BitVec 32 := Scalar.addi v62 v61
  let v69 : BitVec 32 := Scalar.select v67 v68 v62
  let c3_i32 : BitVec 32 := 3#32
  let v70 : BitVec 1 := Scalar.cmpi .eq v69 c3_i32
  let v71 : BitVec 32 := Scalar.extui v70
  let c0_i32_30 : BitVec 32 := 0#32
  let v72 : BitVec 1 := Scalar.cmpi .ne v71 c0_i32_30
  v72

def k0_cond6 (i : grid0.Coords) : BitVec 1 :=
  let arg0 : BitVec 32 := BitVec.ofNat 32 (i 0).val
  let c0_i32_2 : BitVec 32 := 0#32
  let v18 : BitVec 1 := Scalar.cmpi .sgt arg0 c0_i32_2
  let v19 : BitVec 32 := Scalar.extui v18
  let c0_i32_3 : BitVec 32 := 0#32
  let v20 : BitVec 1 := Scalar.cmpi .slt arg0 c0_i32_3
  let v21 : BitVec 32 := Scalar.extui v20
  let v22 : BitVec 32 := Scalar.subi v19 v21
  let c4_i32 : BitVec 32 := 4#32
  let c0_i32_4 : BitVec 32 := 0#32
  let v23 : BitVec 1 := Scalar.cmpi .sgt c4_i32 c0_i32_4
  let v24 : BitVec 32 := Scalar.extui v23
  let c0_i32_5 : BitVec 32 := 0#32
  let v25 : BitVec 1 := Scalar.cmpi .slt c4_i32 c0_i32_5
  let v26 : BitVec 32 := Scalar.extui v25
  let v27 : BitVec 32 := Scalar.subi v24 v26
  let v28 : BitVec 1 := Scalar.cmpi .ne v22 v27
  let v29 : BitVec 32 := Scalar.remsi arg0 c4_i32
  let c0_i32_6 : BitVec 32 := 0#32
  let v30 : BitVec 1 := Scalar.cmpi .ne v29 c0_i32_6
  let v31 : BitVec 1 := Scalar.andi v28 v30
  let v17 : BitVec 32 := Scalar.divsi arg0 c4_i32
  let c1_i32_7 : BitVec 32 := 1#32
  let v32 : BitVec 32 := Scalar.subi v17 c1_i32_7
  let v33 : BitVec 32 := Scalar.select v31 v32 v17
  let c0_i32_34 : BitVec 32 := 0#32
  let v79 : BitVec 1 := Scalar.cmpi .eq v33 c0_i32_34
  let v80 : BitVec 32 := Scalar.extui v79
  let c0_i32_35 : BitVec 32 := 0#32
  let v81 : BitVec 1 := Scalar.cmpi .ne v80 c0_i32_35
  v81

def k0_dev16 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_38 : BitVec 32 := 1#32
  let v85 : BitVec 32 := Scalar.addi v2 c1_i32_38
  let c16_i32_39 : BitVec 32 := 16#32
  let c0_i32_40 : BitVec 32 := 0#32
  let v86 : BitVec 1 := Scalar.cmpi .eq c16_i32_39 c0_i32_40
  let c1_i32_41 : BitVec 32 := 1#32
  let v87 : BitVec 32 := Scalar.select v86 c1_i32_41 c16_i32_39
  let v88 : BitVec 32 := Scalar.remsi v85 v87
  let c0_i32_43 : BitVec 32 := 0#32
  let v90 : BitVec 1 := Scalar.cmpi .slt v88 c0_i32_43
  let c0_i32_44 : BitVec 32 := 0#32
  let v91 : BitVec 1 := Scalar.cmpi .slt v87 c0_i32_44
  let v92 : BitVec 1 := Scalar.xori v90 v91
  let c0_i32_42 : BitVec 32 := 0#32
  let v89 : BitVec 1 := Scalar.cmpi .ne v88 c0_i32_42
  let v93 : BitVec 1 := Scalar.andi v92 v89
  let v94 : BitVec 32 := Scalar.addi v88 v87
  let v95 : BitVec 32 := Scalar.select v93 v94 v88
  let c1_i32_53 : BitVec 32 := 1#32
  let v96 : BitVec 32 := Scalar.muli v95 c1_i32_53
  let v97 : BitVec 32 := Scalar.addi c0_i32_54 v96
  v97.toNat
def k0_dev17 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v106 : BitVec 32 := Scalar.addi v2 c2_i32
  let c16_i32_59 : BitVec 32 := 16#32
  let c0_i32_60 : BitVec 32 := 0#32
  let v107 : BitVec 1 := Scalar.cmpi .eq c16_i32_59 c0_i32_60
  let c1_i32_61 : BitVec 32 := 1#32
  let v108 : BitVec 32 := Scalar.select v107 c1_i32_61 c16_i32_59
  let v109 : BitVec 32 := Scalar.remsi v106 v108
  let c0_i32_63 : BitVec 32 := 0#32
  let v111 : BitVec 1 := Scalar.cmpi .slt v109 c0_i32_63
  let c0_i32_64 : BitVec 32 := 0#32
  let v112 : BitVec 1 := Scalar.cmpi .slt v108 c0_i32_64
  let v113 : BitVec 1 := Scalar.xori v111 v112
  let c0_i32_62 : BitVec 32 := 0#32
  let v110 : BitVec 1 := Scalar.cmpi .ne v109 c0_i32_62
  let v114 : BitVec 1 := Scalar.andi v113 v110
  let v115 : BitVec 32 := Scalar.addi v109 v108
  let v116 : BitVec 32 := Scalar.select v114 v115 v109
  let c1_i32_73 : BitVec 32 := 1#32
  let v117 : BitVec 32 := Scalar.muli v116 c1_i32_73
  let v118 : BitVec 32 := Scalar.addi c0_i32_74 v117
  v118.toNat
def k0_dev18 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v127 : BitVec 32 := Scalar.addi v2 c3_i32_79
  let c16_i32_80 : BitVec 32 := 16#32
  let c0_i32_81 : BitVec 32 := 0#32
  let v128 : BitVec 1 := Scalar.cmpi .eq c16_i32_80 c0_i32_81
  let c1_i32_82 : BitVec 32 := 1#32
  let v129 : BitVec 32 := Scalar.select v128 c1_i32_82 c16_i32_80
  let v130 : BitVec 32 := Scalar.remsi v127 v129
  let c0_i32_84 : BitVec 32 := 0#32
  let v132 : BitVec 1 := Scalar.cmpi .slt v130 c0_i32_84
  let c0_i32_85 : BitVec 32 := 0#32
  let v133 : BitVec 1 := Scalar.cmpi .slt v129 c0_i32_85
  let v134 : BitVec 1 := Scalar.xori v132 v133
  let c0_i32_83 : BitVec 32 := 0#32
  let v131 : BitVec 1 := Scalar.cmpi .ne v130 c0_i32_83
  let v135 : BitVec 1 := Scalar.andi v134 v131
  let v136 : BitVec 32 := Scalar.addi v130 v129
  let v137 : BitVec 32 := Scalar.select v135 v136 v130
  let c1_i32_94 : BitVec 32 := 1#32
  let v138 : BitVec 32 := Scalar.muli v137 c1_i32_94
  let v139 : BitVec 32 := Scalar.addi c0_i32_95 v138
  v139.toNat
def k0_dev19 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_100 : BitVec 32 := 4#32
  let v148 : BitVec 32 := Scalar.addi v2 c4_i32_100
  let c16_i32_101 : BitVec 32 := 16#32
  let c0_i32_102 : BitVec 32 := 0#32
  let v149 : BitVec 1 := Scalar.cmpi .eq c16_i32_101 c0_i32_102
  let c1_i32_103 : BitVec 32 := 1#32
  let v150 : BitVec 32 := Scalar.select v149 c1_i32_103 c16_i32_101
  let v151 : BitVec 32 := Scalar.remsi v148 v150
  let c0_i32_105 : BitVec 32 := 0#32
  let v153 : BitVec 1 := Scalar.cmpi .slt v151 c0_i32_105
  let c0_i32_106 : BitVec 32 := 0#32
  let v154 : BitVec 1 := Scalar.cmpi .slt v150 c0_i32_106
  let v155 : BitVec 1 := Scalar.xori v153 v154
  let c0_i32_104 : BitVec 32 := 0#32
  let v152 : BitVec 1 := Scalar.cmpi .ne v151 c0_i32_104
  let v156 : BitVec 1 := Scalar.andi v155 v152
  let v157 : BitVec 32 := Scalar.addi v151 v150
  let v158 : BitVec 32 := Scalar.select v156 v157 v151
  let c1_i32_115 : BitVec 32 := 1#32
  let v159 : BitVec 32 := Scalar.muli v158 c1_i32_115
  let v160 : BitVec 32 := Scalar.addi c0_i32_116 v159
  v160.toNat
def k0_dev20 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v169 : BitVec 32 := Scalar.addi v2 c5_i32
  let c16_i32_121 : BitVec 32 := 16#32
  let c0_i32_122 : BitVec 32 := 0#32
  let v170 : BitVec 1 := Scalar.cmpi .eq c16_i32_121 c0_i32_122
  let c1_i32_123 : BitVec 32 := 1#32
  let v171 : BitVec 32 := Scalar.select v170 c1_i32_123 c16_i32_121
  let v172 : BitVec 32 := Scalar.remsi v169 v171
  let c0_i32_125 : BitVec 32 := 0#32
  let v174 : BitVec 1 := Scalar.cmpi .slt v172 c0_i32_125
  let c0_i32_126 : BitVec 32 := 0#32
  let v175 : BitVec 1 := Scalar.cmpi .slt v171 c0_i32_126
  let v176 : BitVec 1 := Scalar.xori v174 v175
  let c0_i32_124 : BitVec 32 := 0#32
  let v173 : BitVec 1 := Scalar.cmpi .ne v172 c0_i32_124
  let v177 : BitVec 1 := Scalar.andi v176 v173
  let v178 : BitVec 32 := Scalar.addi v172 v171
  let v179 : BitVec 32 := Scalar.select v177 v178 v172
  let c1_i32_135 : BitVec 32 := 1#32
  let v180 : BitVec 32 := Scalar.muli v179 c1_i32_135
  let v181 : BitVec 32 := Scalar.addi c0_i32_136 v180
  v181.toNat
def k0_dev21 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v190 : BitVec 32 := Scalar.addi v2 c6_i32
  let c16_i32_141 : BitVec 32 := 16#32
  let c0_i32_142 : BitVec 32 := 0#32
  let v191 : BitVec 1 := Scalar.cmpi .eq c16_i32_141 c0_i32_142
  let c1_i32_143 : BitVec 32 := 1#32
  let v192 : BitVec 32 := Scalar.select v191 c1_i32_143 c16_i32_141
  let v193 : BitVec 32 := Scalar.remsi v190 v192
  let c0_i32_145 : BitVec 32 := 0#32
  let v195 : BitVec 1 := Scalar.cmpi .slt v193 c0_i32_145
  let c0_i32_146 : BitVec 32 := 0#32
  let v196 : BitVec 1 := Scalar.cmpi .slt v192 c0_i32_146
  let v197 : BitVec 1 := Scalar.xori v195 v196
  let c0_i32_144 : BitVec 32 := 0#32
  let v194 : BitVec 1 := Scalar.cmpi .ne v193 c0_i32_144
  let v198 : BitVec 1 := Scalar.andi v197 v194
  let v199 : BitVec 32 := Scalar.addi v193 v192
  let v200 : BitVec 32 := Scalar.select v198 v199 v193
  let c1_i32_155 : BitVec 32 := 1#32
  let v201 : BitVec 32 := Scalar.muli v200 c1_i32_155
  let v202 : BitVec 32 := Scalar.addi c0_i32_156 v201
  v202.toNat
def k0_dev22 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_161 : BitVec 32 := 7#32
  let v211 : BitVec 32 := Scalar.addi v2 c7_i32_161
  let c16_i32_162 : BitVec 32 := 16#32
  let c0_i32_163 : BitVec 32 := 0#32
  let v212 : BitVec 1 := Scalar.cmpi .eq c16_i32_162 c0_i32_163
  let c1_i32_164 : BitVec 32 := 1#32
  let v213 : BitVec 32 := Scalar.select v212 c1_i32_164 c16_i32_162
  let v214 : BitVec 32 := Scalar.remsi v211 v213
  let c0_i32_166 : BitVec 32 := 0#32
  let v216 : BitVec 1 := Scalar.cmpi .slt v214 c0_i32_166
  let c0_i32_167 : BitVec 32 := 0#32
  let v217 : BitVec 1 := Scalar.cmpi .slt v213 c0_i32_167
  let v218 : BitVec 1 := Scalar.xori v216 v217
  let c0_i32_165 : BitVec 32 := 0#32
  let v215 : BitVec 1 := Scalar.cmpi .ne v214 c0_i32_165
  let v219 : BitVec 1 := Scalar.andi v218 v215
  let v220 : BitVec 32 := Scalar.addi v214 v213
  let v221 : BitVec 32 := Scalar.select v219 v220 v214
  let c1_i32_176 : BitVec 32 := 1#32
  let v222 : BitVec 32 := Scalar.muli v221 c1_i32_176
  let v223 : BitVec 32 := Scalar.addi c0_i32_177 v222
  v223.toNat
def k0_dev23 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v232 : BitVec 32 := Scalar.addi v2 c8_i32
  let c16_i32_182 : BitVec 32 := 16#32
  let c0_i32_183 : BitVec 32 := 0#32
  let v233 : BitVec 1 := Scalar.cmpi .eq c16_i32_182 c0_i32_183
  let c1_i32_184 : BitVec 32 := 1#32
  let v234 : BitVec 32 := Scalar.select v233 c1_i32_184 c16_i32_182
  let v235 : BitVec 32 := Scalar.remsi v232 v234
  let c0_i32_186 : BitVec 32 := 0#32
  let v237 : BitVec 1 := Scalar.cmpi .slt v235 c0_i32_186
  let c0_i32_187 : BitVec 32 := 0#32
  let v238 : BitVec 1 := Scalar.cmpi .slt v234 c0_i32_187
  let v239 : BitVec 1 := Scalar.xori v237 v238
  let c0_i32_185 : BitVec 32 := 0#32
  let v236 : BitVec 1 := Scalar.cmpi .ne v235 c0_i32_185
  let v240 : BitVec 1 := Scalar.andi v239 v236
  let v241 : BitVec 32 := Scalar.addi v235 v234
  let v242 : BitVec 32 := Scalar.select v240 v241 v235
  let c1_i32_196 : BitVec 32 := 1#32
  let v243 : BitVec 32 := Scalar.muli v242 c1_i32_196
  let v244 : BitVec 32 := Scalar.addi c0_i32_197 v243
  v244.toNat
def k0_dev24 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v253 : BitVec 32 := Scalar.addi v2 c9_i32
  let c16_i32_202 : BitVec 32 := 16#32
  let c0_i32_203 : BitVec 32 := 0#32
  let v254 : BitVec 1 := Scalar.cmpi .eq c16_i32_202 c0_i32_203
  let c1_i32_204 : BitVec 32 := 1#32
  let v255 : BitVec 32 := Scalar.select v254 c1_i32_204 c16_i32_202
  let v256 : BitVec 32 := Scalar.remsi v253 v255
  let c0_i32_206 : BitVec 32 := 0#32
  let v258 : BitVec 1 := Scalar.cmpi .slt v256 c0_i32_206
  let c0_i32_207 : BitVec 32 := 0#32
  let v259 : BitVec 1 := Scalar.cmpi .slt v255 c0_i32_207
  let v260 : BitVec 1 := Scalar.xori v258 v259
  let c0_i32_205 : BitVec 32 := 0#32
  let v257 : BitVec 1 := Scalar.cmpi .ne v256 c0_i32_205
  let v261 : BitVec 1 := Scalar.andi v260 v257
  let v262 : BitVec 32 := Scalar.addi v256 v255
  let v263 : BitVec 32 := Scalar.select v261 v262 v256
  let c1_i32_216 : BitVec 32 := 1#32
  let v264 : BitVec 32 := Scalar.muli v263 c1_i32_216
  let v265 : BitVec 32 := Scalar.addi c0_i32_217 v264
  v265.toNat
def k0_dev25 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v274 : BitVec 32 := Scalar.addi v2 c10_i32
  let c16_i32_222 : BitVec 32 := 16#32
  let c0_i32_223 : BitVec 32 := 0#32
  let v275 : BitVec 1 := Scalar.cmpi .eq c16_i32_222 c0_i32_223
  let c1_i32_224 : BitVec 32 := 1#32
  let v276 : BitVec 32 := Scalar.select v275 c1_i32_224 c16_i32_222
  let v277 : BitVec 32 := Scalar.remsi v274 v276
  let c0_i32_226 : BitVec 32 := 0#32
  let v279 : BitVec 1 := Scalar.cmpi .slt v277 c0_i32_226
  let c0_i32_227 : BitVec 32 := 0#32
  let v280 : BitVec 1 := Scalar.cmpi .slt v276 c0_i32_227
  let v281 : BitVec 1 := Scalar.xori v279 v280
  let c0_i32_225 : BitVec 32 := 0#32
  let v278 : BitVec 1 := Scalar.cmpi .ne v277 c0_i32_225
  let v282 : BitVec 1 := Scalar.andi v281 v278
  let v283 : BitVec 32 := Scalar.addi v277 v276
  let v284 : BitVec 32 := Scalar.select v282 v283 v277
  let c1_i32_236 : BitVec 32 := 1#32
  let v285 : BitVec 32 := Scalar.muli v284 c1_i32_236
  let v286 : BitVec 32 := Scalar.addi c0_i32_237 v285
  v286.toNat
def k0_dev26 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v295 : BitVec 32 := Scalar.addi v2 c11_i32
  let c16_i32_242 : BitVec 32 := 16#32
  let c0_i32_243 : BitVec 32 := 0#32
  let v296 : BitVec 1 := Scalar.cmpi .eq c16_i32_242 c0_i32_243
  let c1_i32_244 : BitVec 32 := 1#32
  let v297 : BitVec 32 := Scalar.select v296 c1_i32_244 c16_i32_242
  let v298 : BitVec 32 := Scalar.remsi v295 v297
  let c0_i32_246 : BitVec 32 := 0#32
  let v300 : BitVec 1 := Scalar.cmpi .slt v298 c0_i32_246
  let c0_i32_247 : BitVec 32 := 0#32
  let v301 : BitVec 1 := Scalar.cmpi .slt v297 c0_i32_247
  let v302 : BitVec 1 := Scalar.xori v300 v301
  let c0_i32_245 : BitVec 32 := 0#32
  let v299 : BitVec 1 := Scalar.cmpi .ne v298 c0_i32_245
  let v303 : BitVec 1 := Scalar.andi v302 v299
  let v304 : BitVec 32 := Scalar.addi v298 v297
  let v305 : BitVec 32 := Scalar.select v303 v304 v298
  let c1_i32_256 : BitVec 32 := 1#32
  let v306 : BitVec 32 := Scalar.muli v305 c1_i32_256
  let v307 : BitVec 32 := Scalar.addi c0_i32_257 v306
  v307.toNat
def k0_dev27 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v316 : BitVec 32 := Scalar.addi v2 c12_i32
  let c16_i32_262 : BitVec 32 := 16#32
  let c0_i32_263 : BitVec 32 := 0#32
  let v317 : BitVec 1 := Scalar.cmpi .eq c16_i32_262 c0_i32_263
  let c1_i32_264 : BitVec 32 := 1#32
  let v318 : BitVec 32 := Scalar.select v317 c1_i32_264 c16_i32_262
  let v319 : BitVec 32 := Scalar.remsi v316 v318
  let c0_i32_266 : BitVec 32 := 0#32
  let v321 : BitVec 1 := Scalar.cmpi .slt v319 c0_i32_266
  let c0_i32_267 : BitVec 32 := 0#32
  let v322 : BitVec 1 := Scalar.cmpi .slt v318 c0_i32_267
  let v323 : BitVec 1 := Scalar.xori v321 v322
  let c0_i32_265 : BitVec 32 := 0#32
  let v320 : BitVec 1 := Scalar.cmpi .ne v319 c0_i32_265
  let v324 : BitVec 1 := Scalar.andi v323 v320
  let v325 : BitVec 32 := Scalar.addi v319 v318
  let v326 : BitVec 32 := Scalar.select v324 v325 v319
  let c1_i32_276 : BitVec 32 := 1#32
  let v327 : BitVec 32 := Scalar.muli v326 c1_i32_276
  let v328 : BitVec 32 := Scalar.addi c0_i32_277 v327
  v328.toNat
def k0_dev28 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v337 : BitVec 32 := Scalar.addi v2 c13_i32
  let c16_i32_282 : BitVec 32 := 16#32
  let c0_i32_283 : BitVec 32 := 0#32
  let v338 : BitVec 1 := Scalar.cmpi .eq c16_i32_282 c0_i32_283
  let c1_i32_284 : BitVec 32 := 1#32
  let v339 : BitVec 32 := Scalar.select v338 c1_i32_284 c16_i32_282
  let v340 : BitVec 32 := Scalar.remsi v337 v339
  let c0_i32_286 : BitVec 32 := 0#32
  let v342 : BitVec 1 := Scalar.cmpi .slt v340 c0_i32_286
  let c0_i32_287 : BitVec 32 := 0#32
  let v343 : BitVec 1 := Scalar.cmpi .slt v339 c0_i32_287
  let v344 : BitVec 1 := Scalar.xori v342 v343
  let c0_i32_285 : BitVec 32 := 0#32
  let v341 : BitVec 1 := Scalar.cmpi .ne v340 c0_i32_285
  let v345 : BitVec 1 := Scalar.andi v344 v341
  let v346 : BitVec 32 := Scalar.addi v340 v339
  let v347 : BitVec 32 := Scalar.select v345 v346 v340
  let c1_i32_296 : BitVec 32 := 1#32
  let v348 : BitVec 32 := Scalar.muli v347 c1_i32_296
  let v349 : BitVec 32 := Scalar.addi c0_i32_297 v348
  v349.toNat
def k0_dev29 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v358 : BitVec 32 := Scalar.addi v2 c14_i32
  let c16_i32_302 : BitVec 32 := 16#32
  let c0_i32_303 : BitVec 32 := 0#32
  let v359 : BitVec 1 := Scalar.cmpi .eq c16_i32_302 c0_i32_303
  let c1_i32_304 : BitVec 32 := 1#32
  let v360 : BitVec 32 := Scalar.select v359 c1_i32_304 c16_i32_302
  let v361 : BitVec 32 := Scalar.remsi v358 v360
  let c0_i32_306 : BitVec 32 := 0#32
  let v363 : BitVec 1 := Scalar.cmpi .slt v361 c0_i32_306
  let c0_i32_307 : BitVec 32 := 0#32
  let v364 : BitVec 1 := Scalar.cmpi .slt v360 c0_i32_307
  let v365 : BitVec 1 := Scalar.xori v363 v364
  let c0_i32_305 : BitVec 32 := 0#32
  let v362 : BitVec 1 := Scalar.cmpi .ne v361 c0_i32_305
  let v366 : BitVec 1 := Scalar.andi v365 v362
  let v367 : BitVec 32 := Scalar.addi v361 v360
  let v368 : BitVec 32 := Scalar.select v366 v367 v361
  let c1_i32_316 : BitVec 32 := 1#32
  let v369 : BitVec 32 := Scalar.muli v368 c1_i32_316
  let v370 : BitVec 32 := Scalar.addi c0_i32_317 v369
  v370.toNat
def k0_dev30 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v379 : BitVec 32 := Scalar.addi v2 c15_i32
  let c16_i32_322 : BitVec 32 := 16#32
  let c0_i32_323 : BitVec 32 := 0#32
  let v380 : BitVec 1 := Scalar.cmpi .eq c16_i32_322 c0_i32_323
  let c1_i32_324 : BitVec 32 := 1#32
  let v381 : BitVec 32 := Scalar.select v380 c1_i32_324 c16_i32_322
  let v382 : BitVec 32 := Scalar.remsi v379 v381
  let c0_i32_326 : BitVec 32 := 0#32
  let v384 : BitVec 1 := Scalar.cmpi .slt v382 c0_i32_326
  let c0_i32_327 : BitVec 32 := 0#32
  let v385 : BitVec 1 := Scalar.cmpi .slt v381 c0_i32_327
  let v386 : BitVec 1 := Scalar.xori v384 v385
  let c0_i32_325 : BitVec 32 := 0#32
  let v383 : BitVec 1 := Scalar.cmpi .ne v382 c0_i32_325
  let v387 : BitVec 1 := Scalar.andi v386 v383
  let v388 : BitVec 32 := Scalar.addi v382 v381
  let v389 : BitVec 32 := Scalar.select v387 v388 v382
  let c1_i32_336 : BitVec 32 := 1#32
  let v390 : BitVec 32 := Scalar.muli v389 c1_i32_336
  let v391 : BitVec 32 := Scalar.addi c0_i32_337 v390
  v391.toNat
def k0_cond7 (i : grid0.Coords) : BitVec 1 :=
  let arg0 : BitVec 32 := BitVec.ofNat 32 (i 0).val
  let c0_i32_2 : BitVec 32 := 0#32
  let v18 : BitVec 1 := Scalar.cmpi .sgt arg0 c0_i32_2
  let v19 : BitVec 32 := Scalar.extui v18
  let c0_i32_3 : BitVec 32 := 0#32
  let v20 : BitVec 1 := Scalar.cmpi .slt arg0 c0_i32_3
  let v21 : BitVec 32 := Scalar.extui v20
  let v22 : BitVec 32 := Scalar.subi v19 v21
  let c4_i32 : BitVec 32 := 4#32
  let c0_i32_4 : BitVec 32 := 0#32
  let v23 : BitVec 1 := Scalar.cmpi .sgt c4_i32 c0_i32_4
  let v24 : BitVec 32 := Scalar.extui v23
  let c0_i32_5 : BitVec 32 := 0#32
  let v25 : BitVec 1 := Scalar.cmpi .slt c4_i32 c0_i32_5
  let v26 : BitVec 32 := Scalar.extui v25
  let v27 : BitVec 32 := Scalar.subi v24 v26
  let v28 : BitVec 1 := Scalar.cmpi .ne v22 v27
  let v29 : BitVec 32 := Scalar.remsi arg0 c4_i32
  let c0_i32_6 : BitVec 32 := 0#32
  let v30 : BitVec 1 := Scalar.cmpi .ne v29 c0_i32_6
  let v31 : BitVec 1 := Scalar.andi v28 v30
  let v17 : BitVec 32 := Scalar.divsi arg0 c4_i32
  let c1_i32_7 : BitVec 32 := 1#32
  let v32 : BitVec 32 := Scalar.subi v17 c1_i32_7
  let v33 : BitVec 32 := Scalar.select v31 v32 v17
  let c1_i32_36 : BitVec 32 := 1#32
  let v82 : BitVec 1 := Scalar.cmpi .eq v33 c1_i32_36
  let v83 : BitVec 32 := Scalar.extui v82
  let c0_i32_37 : BitVec 32 := 0#32
  let v84 : BitVec 1 := Scalar.cmpi .ne v83 c0_i32_37
  v84

def k0_dev31 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_38 : BitVec 32 := 1#32
  let v85 : BitVec 32 := Scalar.addi v2 c1_i32_38
  let c16_i32_39 : BitVec 32 := 16#32
  let c0_i32_40 : BitVec 32 := 0#32
  let v86 : BitVec 1 := Scalar.cmpi .eq c16_i32_39 c0_i32_40
  let c1_i32_41 : BitVec 32 := 1#32
  let v87 : BitVec 32 := Scalar.select v86 c1_i32_41 c16_i32_39
  let v88 : BitVec 32 := Scalar.remsi v85 v87
  let c0_i32_43 : BitVec 32 := 0#32
  let v90 : BitVec 1 := Scalar.cmpi .slt v88 c0_i32_43
  let c0_i32_44 : BitVec 32 := 0#32
  let v91 : BitVec 1 := Scalar.cmpi .slt v87 c0_i32_44
  let v92 : BitVec 1 := Scalar.xori v90 v91
  let c0_i32_42 : BitVec 32 := 0#32
  let v89 : BitVec 1 := Scalar.cmpi .ne v88 c0_i32_42
  let v93 : BitVec 1 := Scalar.andi v92 v89
  let v94 : BitVec 32 := Scalar.addi v88 v87
  let v95 : BitVec 32 := Scalar.select v93 v94 v88
  let c1_i32_53 : BitVec 32 := 1#32
  let v96 : BitVec 32 := Scalar.muli v95 c1_i32_53
  let v97 : BitVec 32 := Scalar.addi c0_i32_54 v96
  v97.toNat
def k0_dev32 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v106 : BitVec 32 := Scalar.addi v2 c2_i32
  let c16_i32_59 : BitVec 32 := 16#32
  let c0_i32_60 : BitVec 32 := 0#32
  let v107 : BitVec 1 := Scalar.cmpi .eq c16_i32_59 c0_i32_60
  let c1_i32_61 : BitVec 32 := 1#32
  let v108 : BitVec 32 := Scalar.select v107 c1_i32_61 c16_i32_59
  let v109 : BitVec 32 := Scalar.remsi v106 v108
  let c0_i32_63 : BitVec 32 := 0#32
  let v111 : BitVec 1 := Scalar.cmpi .slt v109 c0_i32_63
  let c0_i32_64 : BitVec 32 := 0#32
  let v112 : BitVec 1 := Scalar.cmpi .slt v108 c0_i32_64
  let v113 : BitVec 1 := Scalar.xori v111 v112
  let c0_i32_62 : BitVec 32 := 0#32
  let v110 : BitVec 1 := Scalar.cmpi .ne v109 c0_i32_62
  let v114 : BitVec 1 := Scalar.andi v113 v110
  let v115 : BitVec 32 := Scalar.addi v109 v108
  let v116 : BitVec 32 := Scalar.select v114 v115 v109
  let c1_i32_73 : BitVec 32 := 1#32
  let v117 : BitVec 32 := Scalar.muli v116 c1_i32_73
  let v118 : BitVec 32 := Scalar.addi c0_i32_74 v117
  v118.toNat
def k0_dev33 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v127 : BitVec 32 := Scalar.addi v2 c3_i32_79
  let c16_i32_80 : BitVec 32 := 16#32
  let c0_i32_81 : BitVec 32 := 0#32
  let v128 : BitVec 1 := Scalar.cmpi .eq c16_i32_80 c0_i32_81
  let c1_i32_82 : BitVec 32 := 1#32
  let v129 : BitVec 32 := Scalar.select v128 c1_i32_82 c16_i32_80
  let v130 : BitVec 32 := Scalar.remsi v127 v129
  let c0_i32_84 : BitVec 32 := 0#32
  let v132 : BitVec 1 := Scalar.cmpi .slt v130 c0_i32_84
  let c0_i32_85 : BitVec 32 := 0#32
  let v133 : BitVec 1 := Scalar.cmpi .slt v129 c0_i32_85
  let v134 : BitVec 1 := Scalar.xori v132 v133
  let c0_i32_83 : BitVec 32 := 0#32
  let v131 : BitVec 1 := Scalar.cmpi .ne v130 c0_i32_83
  let v135 : BitVec 1 := Scalar.andi v134 v131
  let v136 : BitVec 32 := Scalar.addi v130 v129
  let v137 : BitVec 32 := Scalar.select v135 v136 v130
  let c1_i32_94 : BitVec 32 := 1#32
  let v138 : BitVec 32 := Scalar.muli v137 c1_i32_94
  let v139 : BitVec 32 := Scalar.addi c0_i32_95 v138
  v139.toNat
def k0_dev34 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_100 : BitVec 32 := 4#32
  let v148 : BitVec 32 := Scalar.addi v2 c4_i32_100
  let c16_i32_101 : BitVec 32 := 16#32
  let c0_i32_102 : BitVec 32 := 0#32
  let v149 : BitVec 1 := Scalar.cmpi .eq c16_i32_101 c0_i32_102
  let c1_i32_103 : BitVec 32 := 1#32
  let v150 : BitVec 32 := Scalar.select v149 c1_i32_103 c16_i32_101
  let v151 : BitVec 32 := Scalar.remsi v148 v150
  let c0_i32_105 : BitVec 32 := 0#32
  let v153 : BitVec 1 := Scalar.cmpi .slt v151 c0_i32_105
  let c0_i32_106 : BitVec 32 := 0#32
  let v154 : BitVec 1 := Scalar.cmpi .slt v150 c0_i32_106
  let v155 : BitVec 1 := Scalar.xori v153 v154
  let c0_i32_104 : BitVec 32 := 0#32
  let v152 : BitVec 1 := Scalar.cmpi .ne v151 c0_i32_104
  let v156 : BitVec 1 := Scalar.andi v155 v152
  let v157 : BitVec 32 := Scalar.addi v151 v150
  let v158 : BitVec 32 := Scalar.select v156 v157 v151
  let c1_i32_115 : BitVec 32 := 1#32
  let v159 : BitVec 32 := Scalar.muli v158 c1_i32_115
  let v160 : BitVec 32 := Scalar.addi c0_i32_116 v159
  v160.toNat
def k0_dev35 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v169 : BitVec 32 := Scalar.addi v2 c5_i32
  let c16_i32_121 : BitVec 32 := 16#32
  let c0_i32_122 : BitVec 32 := 0#32
  let v170 : BitVec 1 := Scalar.cmpi .eq c16_i32_121 c0_i32_122
  let c1_i32_123 : BitVec 32 := 1#32
  let v171 : BitVec 32 := Scalar.select v170 c1_i32_123 c16_i32_121
  let v172 : BitVec 32 := Scalar.remsi v169 v171
  let c0_i32_125 : BitVec 32 := 0#32
  let v174 : BitVec 1 := Scalar.cmpi .slt v172 c0_i32_125
  let c0_i32_126 : BitVec 32 := 0#32
  let v175 : BitVec 1 := Scalar.cmpi .slt v171 c0_i32_126
  let v176 : BitVec 1 := Scalar.xori v174 v175
  let c0_i32_124 : BitVec 32 := 0#32
  let v173 : BitVec 1 := Scalar.cmpi .ne v172 c0_i32_124
  let v177 : BitVec 1 := Scalar.andi v176 v173
  let v178 : BitVec 32 := Scalar.addi v172 v171
  let v179 : BitVec 32 := Scalar.select v177 v178 v172
  let c1_i32_135 : BitVec 32 := 1#32
  let v180 : BitVec 32 := Scalar.muli v179 c1_i32_135
  let v181 : BitVec 32 := Scalar.addi c0_i32_136 v180
  v181.toNat
def k0_dev36 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v190 : BitVec 32 := Scalar.addi v2 c6_i32
  let c16_i32_141 : BitVec 32 := 16#32
  let c0_i32_142 : BitVec 32 := 0#32
  let v191 : BitVec 1 := Scalar.cmpi .eq c16_i32_141 c0_i32_142
  let c1_i32_143 : BitVec 32 := 1#32
  let v192 : BitVec 32 := Scalar.select v191 c1_i32_143 c16_i32_141
  let v193 : BitVec 32 := Scalar.remsi v190 v192
  let c0_i32_145 : BitVec 32 := 0#32
  let v195 : BitVec 1 := Scalar.cmpi .slt v193 c0_i32_145
  let c0_i32_146 : BitVec 32 := 0#32
  let v196 : BitVec 1 := Scalar.cmpi .slt v192 c0_i32_146
  let v197 : BitVec 1 := Scalar.xori v195 v196
  let c0_i32_144 : BitVec 32 := 0#32
  let v194 : BitVec 1 := Scalar.cmpi .ne v193 c0_i32_144
  let v198 : BitVec 1 := Scalar.andi v197 v194
  let v199 : BitVec 32 := Scalar.addi v193 v192
  let v200 : BitVec 32 := Scalar.select v198 v199 v193
  let c1_i32_155 : BitVec 32 := 1#32
  let v201 : BitVec 32 := Scalar.muli v200 c1_i32_155
  let v202 : BitVec 32 := Scalar.addi c0_i32_156 v201
  v202.toNat
def k0_dev37 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_161 : BitVec 32 := 7#32
  let v211 : BitVec 32 := Scalar.addi v2 c7_i32_161
  let c16_i32_162 : BitVec 32 := 16#32
  let c0_i32_163 : BitVec 32 := 0#32
  let v212 : BitVec 1 := Scalar.cmpi .eq c16_i32_162 c0_i32_163
  let c1_i32_164 : BitVec 32 := 1#32
  let v213 : BitVec 32 := Scalar.select v212 c1_i32_164 c16_i32_162
  let v214 : BitVec 32 := Scalar.remsi v211 v213
  let c0_i32_166 : BitVec 32 := 0#32
  let v216 : BitVec 1 := Scalar.cmpi .slt v214 c0_i32_166
  let c0_i32_167 : BitVec 32 := 0#32
  let v217 : BitVec 1 := Scalar.cmpi .slt v213 c0_i32_167
  let v218 : BitVec 1 := Scalar.xori v216 v217
  let c0_i32_165 : BitVec 32 := 0#32
  let v215 : BitVec 1 := Scalar.cmpi .ne v214 c0_i32_165
  let v219 : BitVec 1 := Scalar.andi v218 v215
  let v220 : BitVec 32 := Scalar.addi v214 v213
  let v221 : BitVec 32 := Scalar.select v219 v220 v214
  let c1_i32_176 : BitVec 32 := 1#32
  let v222 : BitVec 32 := Scalar.muli v221 c1_i32_176
  let v223 : BitVec 32 := Scalar.addi c0_i32_177 v222
  v223.toNat
def k0_dev38 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v232 : BitVec 32 := Scalar.addi v2 c8_i32
  let c16_i32_182 : BitVec 32 := 16#32
  let c0_i32_183 : BitVec 32 := 0#32
  let v233 : BitVec 1 := Scalar.cmpi .eq c16_i32_182 c0_i32_183
  let c1_i32_184 : BitVec 32 := 1#32
  let v234 : BitVec 32 := Scalar.select v233 c1_i32_184 c16_i32_182
  let v235 : BitVec 32 := Scalar.remsi v232 v234
  let c0_i32_186 : BitVec 32 := 0#32
  let v237 : BitVec 1 := Scalar.cmpi .slt v235 c0_i32_186
  let c0_i32_187 : BitVec 32 := 0#32
  let v238 : BitVec 1 := Scalar.cmpi .slt v234 c0_i32_187
  let v239 : BitVec 1 := Scalar.xori v237 v238
  let c0_i32_185 : BitVec 32 := 0#32
  let v236 : BitVec 1 := Scalar.cmpi .ne v235 c0_i32_185
  let v240 : BitVec 1 := Scalar.andi v239 v236
  let v241 : BitVec 32 := Scalar.addi v235 v234
  let v242 : BitVec 32 := Scalar.select v240 v241 v235
  let c1_i32_196 : BitVec 32 := 1#32
  let v243 : BitVec 32 := Scalar.muli v242 c1_i32_196
  let v244 : BitVec 32 := Scalar.addi c0_i32_197 v243
  v244.toNat
def k0_dev39 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v253 : BitVec 32 := Scalar.addi v2 c9_i32
  let c16_i32_202 : BitVec 32 := 16#32
  let c0_i32_203 : BitVec 32 := 0#32
  let v254 : BitVec 1 := Scalar.cmpi .eq c16_i32_202 c0_i32_203
  let c1_i32_204 : BitVec 32 := 1#32
  let v255 : BitVec 32 := Scalar.select v254 c1_i32_204 c16_i32_202
  let v256 : BitVec 32 := Scalar.remsi v253 v255
  let c0_i32_206 : BitVec 32 := 0#32
  let v258 : BitVec 1 := Scalar.cmpi .slt v256 c0_i32_206
  let c0_i32_207 : BitVec 32 := 0#32
  let v259 : BitVec 1 := Scalar.cmpi .slt v255 c0_i32_207
  let v260 : BitVec 1 := Scalar.xori v258 v259
  let c0_i32_205 : BitVec 32 := 0#32
  let v257 : BitVec 1 := Scalar.cmpi .ne v256 c0_i32_205
  let v261 : BitVec 1 := Scalar.andi v260 v257
  let v262 : BitVec 32 := Scalar.addi v256 v255
  let v263 : BitVec 32 := Scalar.select v261 v262 v256
  let c1_i32_216 : BitVec 32 := 1#32
  let v264 : BitVec 32 := Scalar.muli v263 c1_i32_216
  let v265 : BitVec 32 := Scalar.addi c0_i32_217 v264
  v265.toNat
def k0_dev40 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v274 : BitVec 32 := Scalar.addi v2 c10_i32
  let c16_i32_222 : BitVec 32 := 16#32
  let c0_i32_223 : BitVec 32 := 0#32
  let v275 : BitVec 1 := Scalar.cmpi .eq c16_i32_222 c0_i32_223
  let c1_i32_224 : BitVec 32 := 1#32
  let v276 : BitVec 32 := Scalar.select v275 c1_i32_224 c16_i32_222
  let v277 : BitVec 32 := Scalar.remsi v274 v276
  let c0_i32_226 : BitVec 32 := 0#32
  let v279 : BitVec 1 := Scalar.cmpi .slt v277 c0_i32_226
  let c0_i32_227 : BitVec 32 := 0#32
  let v280 : BitVec 1 := Scalar.cmpi .slt v276 c0_i32_227
  let v281 : BitVec 1 := Scalar.xori v279 v280
  let c0_i32_225 : BitVec 32 := 0#32
  let v278 : BitVec 1 := Scalar.cmpi .ne v277 c0_i32_225
  let v282 : BitVec 1 := Scalar.andi v281 v278
  let v283 : BitVec 32 := Scalar.addi v277 v276
  let v284 : BitVec 32 := Scalar.select v282 v283 v277
  let c1_i32_236 : BitVec 32 := 1#32
  let v285 : BitVec 32 := Scalar.muli v284 c1_i32_236
  let v286 : BitVec 32 := Scalar.addi c0_i32_237 v285
  v286.toNat
def k0_dev41 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v295 : BitVec 32 := Scalar.addi v2 c11_i32
  let c16_i32_242 : BitVec 32 := 16#32
  let c0_i32_243 : BitVec 32 := 0#32
  let v296 : BitVec 1 := Scalar.cmpi .eq c16_i32_242 c0_i32_243
  let c1_i32_244 : BitVec 32 := 1#32
  let v297 : BitVec 32 := Scalar.select v296 c1_i32_244 c16_i32_242
  let v298 : BitVec 32 := Scalar.remsi v295 v297
  let c0_i32_246 : BitVec 32 := 0#32
  let v300 : BitVec 1 := Scalar.cmpi .slt v298 c0_i32_246
  let c0_i32_247 : BitVec 32 := 0#32
  let v301 : BitVec 1 := Scalar.cmpi .slt v297 c0_i32_247
  let v302 : BitVec 1 := Scalar.xori v300 v301
  let c0_i32_245 : BitVec 32 := 0#32
  let v299 : BitVec 1 := Scalar.cmpi .ne v298 c0_i32_245
  let v303 : BitVec 1 := Scalar.andi v302 v299
  let v304 : BitVec 32 := Scalar.addi v298 v297
  let v305 : BitVec 32 := Scalar.select v303 v304 v298
  let c1_i32_256 : BitVec 32 := 1#32
  let v306 : BitVec 32 := Scalar.muli v305 c1_i32_256
  let v307 : BitVec 32 := Scalar.addi c0_i32_257 v306
  v307.toNat
def k0_dev42 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v316 : BitVec 32 := Scalar.addi v2 c12_i32
  let c16_i32_262 : BitVec 32 := 16#32
  let c0_i32_263 : BitVec 32 := 0#32
  let v317 : BitVec 1 := Scalar.cmpi .eq c16_i32_262 c0_i32_263
  let c1_i32_264 : BitVec 32 := 1#32
  let v318 : BitVec 32 := Scalar.select v317 c1_i32_264 c16_i32_262
  let v319 : BitVec 32 := Scalar.remsi v316 v318
  let c0_i32_266 : BitVec 32 := 0#32
  let v321 : BitVec 1 := Scalar.cmpi .slt v319 c0_i32_266
  let c0_i32_267 : BitVec 32 := 0#32
  let v322 : BitVec 1 := Scalar.cmpi .slt v318 c0_i32_267
  let v323 : BitVec 1 := Scalar.xori v321 v322
  let c0_i32_265 : BitVec 32 := 0#32
  let v320 : BitVec 1 := Scalar.cmpi .ne v319 c0_i32_265
  let v324 : BitVec 1 := Scalar.andi v323 v320
  let v325 : BitVec 32 := Scalar.addi v319 v318
  let v326 : BitVec 32 := Scalar.select v324 v325 v319
  let c1_i32_276 : BitVec 32 := 1#32
  let v327 : BitVec 32 := Scalar.muli v326 c1_i32_276
  let v328 : BitVec 32 := Scalar.addi c0_i32_277 v327
  v328.toNat
def k0_dev43 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v337 : BitVec 32 := Scalar.addi v2 c13_i32
  let c16_i32_282 : BitVec 32 := 16#32
  let c0_i32_283 : BitVec 32 := 0#32
  let v338 : BitVec 1 := Scalar.cmpi .eq c16_i32_282 c0_i32_283
  let c1_i32_284 : BitVec 32 := 1#32
  let v339 : BitVec 32 := Scalar.select v338 c1_i32_284 c16_i32_282
  let v340 : BitVec 32 := Scalar.remsi v337 v339
  let c0_i32_286 : BitVec 32 := 0#32
  let v342 : BitVec 1 := Scalar.cmpi .slt v340 c0_i32_286
  let c0_i32_287 : BitVec 32 := 0#32
  let v343 : BitVec 1 := Scalar.cmpi .slt v339 c0_i32_287
  let v344 : BitVec 1 := Scalar.xori v342 v343
  let c0_i32_285 : BitVec 32 := 0#32
  let v341 : BitVec 1 := Scalar.cmpi .ne v340 c0_i32_285
  let v345 : BitVec 1 := Scalar.andi v344 v341
  let v346 : BitVec 32 := Scalar.addi v340 v339
  let v347 : BitVec 32 := Scalar.select v345 v346 v340
  let c1_i32_296 : BitVec 32 := 1#32
  let v348 : BitVec 32 := Scalar.muli v347 c1_i32_296
  let v349 : BitVec 32 := Scalar.addi c0_i32_297 v348
  v349.toNat
def k0_dev44 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v358 : BitVec 32 := Scalar.addi v2 c14_i32
  let c16_i32_302 : BitVec 32 := 16#32
  let c0_i32_303 : BitVec 32 := 0#32
  let v359 : BitVec 1 := Scalar.cmpi .eq c16_i32_302 c0_i32_303
  let c1_i32_304 : BitVec 32 := 1#32
  let v360 : BitVec 32 := Scalar.select v359 c1_i32_304 c16_i32_302
  let v361 : BitVec 32 := Scalar.remsi v358 v360
  let c0_i32_306 : BitVec 32 := 0#32
  let v363 : BitVec 1 := Scalar.cmpi .slt v361 c0_i32_306
  let c0_i32_307 : BitVec 32 := 0#32
  let v364 : BitVec 1 := Scalar.cmpi .slt v360 c0_i32_307
  let v365 : BitVec 1 := Scalar.xori v363 v364
  let c0_i32_305 : BitVec 32 := 0#32
  let v362 : BitVec 1 := Scalar.cmpi .ne v361 c0_i32_305
  let v366 : BitVec 1 := Scalar.andi v365 v362
  let v367 : BitVec 32 := Scalar.addi v361 v360
  let v368 : BitVec 32 := Scalar.select v366 v367 v361
  let c1_i32_316 : BitVec 32 := 1#32
  let v369 : BitVec 32 := Scalar.muli v368 c1_i32_316
  let v370 : BitVec 32 := Scalar.addi c0_i32_317 v369
  v370.toNat
def k0_dev45 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v379 : BitVec 32 := Scalar.addi v2 c15_i32
  let c16_i32_322 : BitVec 32 := 16#32
  let c0_i32_323 : BitVec 32 := 0#32
  let v380 : BitVec 1 := Scalar.cmpi .eq c16_i32_322 c0_i32_323
  let c1_i32_324 : BitVec 32 := 1#32
  let v381 : BitVec 32 := Scalar.select v380 c1_i32_324 c16_i32_322
  let v382 : BitVec 32 := Scalar.remsi v379 v381
  let c0_i32_326 : BitVec 32 := 0#32
  let v384 : BitVec 1 := Scalar.cmpi .slt v382 c0_i32_326
  let c0_i32_327 : BitVec 32 := 0#32
  let v385 : BitVec 1 := Scalar.cmpi .slt v381 c0_i32_327
  let v386 : BitVec 1 := Scalar.xori v384 v385
  let c0_i32_325 : BitVec 32 := 0#32
  let v383 : BitVec 1 := Scalar.cmpi .ne v382 c0_i32_325
  let v387 : BitVec 1 := Scalar.andi v386 v383
  let v388 : BitVec 32 := Scalar.addi v382 v381
  let v389 : BitVec 32 := Scalar.select v387 v388 v382
  let c1_i32_336 : BitVec 32 := 1#32
  let v390 : BitVec 32 := Scalar.muli v389 c1_i32_336
  let v391 : BitVec 32 := Scalar.addi c0_i32_337 v390
  v391.toNat
def k0_cond8 (i : grid0.Coords) : BitVec 1 :=
  let arg0 : BitVec 32 := BitVec.ofNat 32 (i 0).val
  let c7_i32 : BitVec 32 := 7#32
  let v73 : BitVec 1 := Scalar.cmpi .eq arg0 c7_i32
  let v74 : BitVec 32 := Scalar.extui v73
  let c0_i32_31 : BitVec 32 := 0#32
  let v75 : BitVec 1 := Scalar.cmpi .ne v74 c0_i32_31
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Geom.lean ====
/-
The kernel's mesh, its semaphores and the pieces of its candidate buffer.

Every device keeps a buffer of 2 × 16 slots, each two rows of 1024 numbers (the running maximum of a column and
the global row it was found at): slot `(s, 0)` is the device's own candidate of segment `s`, slot `(s, d)` the one
that arrives from `d` devices before it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.ValueIdxCore
public import Idealize.ShloMosaic.Lib.Tactic

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh -/

/-- The device `d` places after `c`, the sixteen in a circle. -/
def up (c : Dev nD) (d : Fin 16) : Dev nD := ⟨(c.val + d.val) % 16, Nat.mod_lt _ (by decide)⟩

/-- The distance back: `neg d` places after `up c d` is `c`. -/
def neg (d : Fin 16) : Fin 16 := ⟨(16 - d.val) % 16, Nat.mod_lt _ (by decide)⟩

/-- The device `d` places before `c`. -/
abbrev dn (c : Dev nD) (d : Fin 16) : Dev nD := up c (neg d)

theorem neg_neg : ∀ d, neg (neg d) = d := by decide
theorem neg_zero : neg 0 = 0 := by decide
theorem neg_ne_zero : ∀ d, d ≠ 0 → neg d ≠ 0 := by decide
theorem up_neg : ∀ (c : Dev nD) (d : Fin 16), up (up c d) (neg d) = c := by decide +kernel
theorem up_zero : ∀ c : Dev nD, up c 0 = c := by decide
theorem dn_up (c : Dev nD) (d : Fin 16) : dn (up c d) d = c := up_neg c d
theorem up_dn (c : Dev nD) (d : Fin 16) : up (dn c d) d = c := by
  have h := up_neg c (neg d); rwa [neg_neg] at h

/-- The fifteen distances to a peer, in the order the kernel walks them. -/
def ds : List (Fin 16) := [1, 2, 3, 4, 5, 6, 7, 8, 9, 10, 11, 12, 13, 14, 15]

theorem mem_ds : ∀ d : Fin 16, d ∈ ds ↔ d ≠ 0 := by decide

/-- The peers the barrier's signals name are the device's fifteen, in order. -/
theorem sig_list (i : grid0.Coords) (h : k0_cond1 i = 1#1) : ∀ c : Dev nD,
    [((1 : Fin 16), (⟨k0_dev1 c, k0_dev1_lt i c h⟩ : Dev nD)), (2, ⟨k0_dev2 c, k0_dev2_lt i c h⟩), (3, ⟨k0_dev3 c, k0_dev3_lt i c h⟩),
     (4, ⟨k0_dev4 c, k0_dev4_lt i c h⟩), (5, ⟨k0_dev5 c, k0_dev5_lt i c h⟩), (6, ⟨k0_dev6 c, k0_dev6_lt i c h⟩),
     (7, ⟨k0_dev7 c, k0_dev7_lt i c h⟩), (8, ⟨k0_dev8 c, k0_dev8_lt i c h⟩), (9, ⟨k0_dev9 c, k0_dev9_lt i c h⟩),
     (10, ⟨k0_dev10 c, k0_dev10_lt i c h⟩), (11, ⟨k0_dev11 c, k0_dev11_lt i c h⟩), (12, ⟨k0_dev12 c, k0_dev12_lt i c h⟩),
     (13, ⟨k0_dev13 c, k0_dev13_lt i c h⟩), (14, ⟨k0_dev14 c, k0_dev14_lt i c h⟩), (15, ⟨k0_dev15 c, k0_dev15_lt i c h⟩)]
      = ds.map fun d => (d, up c d) := by decide +kernel +revert

/-- So are the peers the first segment's transfers name, -/
theorem send_list0 (i : grid0.Coords) (h : k0_cond4 i = 1#1) (h' : k0_cond6 i = 1#1) : ∀ c : Dev nD,
    [((1 : Fin 16), (⟨k0_dev16 c, k0_dev16_lt i c h h'⟩ : Dev nD)), (2, ⟨k0_dev17 c, k0_dev17_lt i c h h'⟩), (3, ⟨k0_dev18 c, k0_dev18_lt i c h h'⟩),
     (4, ⟨k0_dev19 c, k0_dev19_lt i c h h'⟩), (5, ⟨k0_dev20 c, k0_dev20_lt i c h h'⟩), (6, ⟨k0_dev21 c, k0_dev21_lt i c h h'⟩),
     (7, ⟨k0_dev22 c, k0_dev22_lt i c h h'⟩), (8, ⟨k0_dev23 c, k0_dev23_lt i c h h'⟩), (9, ⟨k0_dev24 c, k0_dev24_lt i c h h'⟩),
     (10, ⟨k0_dev25 c, k0_dev25_lt i c h h'⟩), (11, ⟨k0_dev26 c, k0_dev26_lt i c h h'⟩), (12, ⟨k0_dev27 c, k0_dev27_lt i c h h'⟩),
     (13, ⟨k0_dev28 c, k0_dev28_lt i c h h'⟩), (14, ⟨k0_dev29 c, k0_dev29_lt i c h h'⟩), (15, ⟨k0_dev30 c, k0_dev30_lt i c h h'⟩)]
      = ds.map fun d => (d, up c d) := by decide +kernel +revert

/-- and those the second's do. -/
theorem send_list1 (i : grid0.Coords) (h : k0_cond4 i = 1#1) (h' : k0_cond7 i = 1#1) : ∀ c : Dev nD,
    [((1 : Fin 16), (⟨k0_dev31 c, k0_dev31_lt i c h h'⟩ : Dev nD)), (2, ⟨k0_dev32 c, k0_dev32_lt i c h h'⟩), (3, ⟨k0_dev33 c, k0_dev33_lt i c h h'⟩),
     (4, ⟨k0_dev34 c, k0_dev34_lt i c h h'⟩), (5, ⟨k0_dev35 c, k0_dev35_lt i c h h'⟩), (6, ⟨k0_dev36 c, k0_dev36_lt i c h h'⟩),
     (7, ⟨k0_dev37 c, k0_dev37_lt i c h h'⟩), (8, ⟨k0_dev38 c, k0_dev38_lt i c h h'⟩), (9, ⟨k0_dev39 c, k0_dev39_lt i c h h'⟩),
     (10, ⟨k0_dev40 c, k0_dev40_lt i c h h'⟩), (11, ⟨k0_dev41 c, k0_dev41_lt i c h h'⟩), (12, ⟨k0_dev42 c, k0_dev42_lt i c h h'⟩),
     (13, ⟨k0_dev43 c, k0_dev43_lt i c h h'⟩), (14, ⟨k0_dev44 c, k0_dev44_lt i c h h'⟩), (15, ⟨k0_dev45 c, k0_dev45_lt i c h h'⟩)]
      = ds.map fun d => (d, up c d) := by decide +kernel +revert

/-! ## The semaphores -/

/-- The position of `(s, d)` in a 2 × 16 array of semaphores is in range; -/
theorem inbS (s : Fin 2) (d : Fin 16) : ∀ a, (![s.val, d.val] : Fin 2 → Nat) a + S1x1.size a ≤ S2x16.size a :=
  Fin.forall_fin_two.mpr ⟨by show s.val + 1 ≤ 2; omega, by show d.val + 1 ≤ 16; omega⟩

/-- the semaphore at `(s, d)` of such an array. -/
abbrev semAt (a : DmaSems sig S2x16) (s : Fin 2) (d : Fin 16) : DmaSem sig :=
  ((a.slice (Rect.unit (s := S2x16) ![s.val, d.val] S1x1.size (inbS s d))).squeeze S_ squeezes_S1x1_S_).sem

/-- The runtime's barrier semaphore. -/
abbrev barS : Sem sig := (SemArray.scalar (sig.barrier 0 rfl) : Sems sig S_).sem

/-- The send (`0`) and receive (`1`) semaphores. -/
def dsem (b : Fin 2) (s : Fin 2) (d : Fin 16) : DmaSem sig := ⟨3 + 32 * b.val + 16 * s.val + d.val, by show _ < 67; omega⟩

theorem sendS_eq : ∀ (s : Fin 2) (d : Fin 16), semAt cc0_scratch1 s d = dsem 0 s d := by decide +kernel
theorem recvS_eq : ∀ (s : Fin 2) (d : Fin 16), semAt cc0_scratch2 s d = dsem 1 s d := by decide +kernel

theorem dsem_inj {b b' s s' : Fin 2} {d d' : Fin 16} (h : dsem b s d = dsem b' s' d') : b = b' ∧ s = s' ∧ d = d' := by
  have h := congrArg Fin.val h
  simp only [dsem] at h
  refine ⟨Fin.ext ?_, Fin.ext ?_, Fin.ext ?_⟩ <;> omega

/-! ## The slots -/

/-- Slot `(s, d)` is inside the candidate buffer. -/
theorem inbM (s : Fin 2) (d : Fin 16) : ∀ a, (![s.val, d.val, 0, 0] : Fin 4 → Nat) a + S1x1x2x1024.size a ≤ S2x16x2x1024.size a := by
  intro a
  fin_cases a
  · show s.val + 1 ≤ 2; omega
  · show d.val + 1 ≤ 16; omega
  · exact Nat.le_refl 2
  · exact Nat.le_refl 1024

abbrev gM : Memref sig .tc .vmem S2x16x2x1024 .f32 := Memref.whole cc0_scratch0

/-- Slot `(s, d)` of the candidate buffer, as the transfers name it. -/
abbrev slotM (s : Fin 2) (d : Fin 16) : Memref sig .tc .vmem S2x1024 .f32 :=
  (gM.slice (Rect.unit (s := S2x16x2x1024) ![s.val, d.val, 0, 0] S1x1x2x1024.size (inbM s d)) (fun _ => rfl)).squeeze S2x1024 squeezes_S1x1x2x1024_S2x1024

abbrev GBuf (F : FTy → Type) : Type := S2x16x2x1024.Idx → Elt F .f32

/-- The segment, the distance, the row and the column of an element of the candidate buffer. -/
abbrev seg (i : S2x16x2x1024.Idx) : Fin 2 := i 0
abbrev dis (i : S2x16x2x1024.Idx) : Fin 16 := i 1
abbrev row (i : S2x16x2x1024.Idx) : Fin 2 := i 2
abbrev col (i : S2x16x2x1024.Idx) : Fin 1024 := i 3

abbrev slotSet (s : Fin 2) (d : Fin 16) : Finset S2x16x2x1024.Idx := (slotM s d).view.set

/-- Where the view of slot `(s, d)` places an element of the slot. -/
theorem slot_emb (s : Fin 2) (d : Fin 16) (x : S2x1024.Idx) (a : Fin 4) :
    ((slotM s d).view.emb x a : Nat) = (![s.val, d.val, 0, 0] : Fin 4 → Nat) a + (Shape.reshapeEquiv squeezes_S1x1x2x1024_S2x1024.numel_eq x a : Nat) := by
  rw [show (slotM s d).view.emb x a = (Rect.unit (s := S2x16x2x1024) ![s.val, d.val, 0, 0] S1x1x2x1024.size (inbM s d)).emb
    (Shape.reshapeEquiv squeezes_S1x1x2x1024_S2x1024.numel_eq x) a from rfl, Rect.emb_apply]
  simp

/-- An element of slot `(s, d)` has the coordinates of the slot. -/
theorem mem_slotSet {s : Fin 2} {d : Fin 16} {i : S2x16x2x1024.Idx} : i ∈ slotSet s d ↔ seg i = s ∧ dis i = d := by
  rw [show slotSet s d = (Rect.unit (s := S2x16x2x1024) ![s.val, d.val, 0, 0] S1x1x2x1024.size (inbM s d)).set from by
    unfold slotSet
    exact (View.set_reshape _ _).trans (View.set_slice_whole _ _)]
  rw [Rect.mem_set_unit]
  constructor
  · intro h
    have h0 : s.val ≤ (seg i).val ∧ (seg i).val < s.val + 1 := h 0
    have h1 : d.val ≤ (dis i).val ∧ (dis i).val < d.val + 1 := h 1
    exact ⟨Fin.ext (by omega), Fin.ext (by omega)⟩
  · rintro ⟨h0, h1⟩ a
    have h0 := congrArg Fin.val h0
    have h1 := congrArg Fin.val h1
    have h2 : (row i).val < 2 := (i 2).isLt
    have h3 : (col i).val < 1024 := (i 3).isLt
    fin_cases a
    · show s.val ≤ (seg i).val ∧ (seg i).val < s.val + 1; omega
    · show d.val ≤ (dis i).val ∧ (dis i).val < d.val + 1; omega
    · show 0 ≤ (row i).val ∧ (row i).val < 0 + 2; omega
    · show 0 ≤ (col i).val ∧ (col i).val < 0 + 1024; omega

/-- Two slots place an element at the same row and column. -/
theorem slot_emb_row (s s' : Fin 2) (d d' : Fin 16) (x : S2x1024.Idx) :
    (slotM s d).view.emb x 2 = (slotM s' d').view.emb x 2 ∧ (slotM s d).view.emb x 3 = (slotM s' d').view.emb x 3 :=
  ⟨Fin.ext ((slot_emb s d x 2).trans (slot_emb s' d' x 2).symm), Fin.ext ((slot_emb s d x 3).trans (slot_emb s' d' x 3).symm)⟩

theorem slot_emb_mem (s : Fin 2) (d : Fin 16) (x : S2x1024.Idx) : (slotM s d).view.emb x 0 = s ∧ (slotM s d).view.emb x 1 = d :=
  mem_slotSet.mp (View.emb_mem_set _ _)

/-! ## The rows of a slot -/

/-- The index of column `j` in a row of one slot. -/
abbrev at4 (j : Fin 1024) : S1x1x1x1024.Idx := ValueIdx.ix4 0 0 0 j

/-- What a load of row `r` of slot `(s, d)` reads off the candidate buffer. -/
theorem read_row {off : Fin 4 → Nat} (inb : ∀ a, off a + S1x1x1x1024.size a ≤ S2x16x2x1024.size a) {s : Fin 2} {d : Fin 16} {r : Fin 2}
    (h : off = ![s.val, d.val, r.val, 0]) (f : GBuf F) :
    gM.view.readAt (Elt F) (Rect.unit (s := S2x16x2x1024) off S1x1x1x1024.size inb).toLoadRect f
      = fun x => f (ValueIdx.ix4 s d r (x 3)) := by
  subst h
  funext x
  rw [View.readAt_apply, View.read_apply]
  refine congrArg f (funext fun a => Fin.ext ?_)
  show (![s.val, d.val, r.val, 0] : Fin 4 → Nat) a + 1 * (x a).val = _
  have h0 : (x 0).val < 1 := (x 0).isLt
  have h1 : (x 1).val < 1 := (x 1).isLt
  have h2 : (x 2).val < 1 := (x 2).isLt
  fin_cases a
  · show s.val + 1 * (x 0).val = s.val; omega
  · show d.val + 1 * (x 1).val = d.val; omega
  · show r.val + 1 * (x 2).val = r.val; omega
  · show 0 + 1 * (x 3).val = (x 3).val; omega

/-- The elements a store on row `r` of slot `(s, d)` writes. -/
theorem mem_row {off : Fin 4 → Nat} (inb : ∀ a, off a + S1x1x1x1024.size a ≤ S2x16x2x1024.size a) {s : Fin 2} {d : Fin 16} {r : Fin 2}
    (h : off = ![s.val, d.val, r.val, 0]) {i : S2x16x2x1024.Idx} :
    i ∈ (gM.access (Rect.unit (s := S2x16x2x1024) off S1x1x1x1024.size inb) : View sig .tc _ _ _).set ↔ seg i = s ∧ dis i = d ∧ row i = r := by
  subst h
  rw [show (gM.access (Rect.unit (s := S2x16x2x1024) ![s.val, d.val, r.val, 0] S1x1x1x1024.size inb) : View sig .tc _ _ _).set
    = (Rect.unit (s := S2x16x2x1024) ![s.val, d.val, r.val, 0] S1x1x1x1024.size inb).set from View.set_slice_whole _ _, Rect.mem_set_unit]
  constructor
  · intro h
    have h0 : s.val ≤ (seg i).val ∧ (seg i).val < s.val + 1 := h 0
    have h1 : d.val ≤ (dis i).val ∧ (dis i).val < d.val + 1 := h 1
    have h2 : r.val ≤ (row i).val ∧ (row i).val < r.val + 1 := h 2
    exact ⟨Fin.ext (by omega), Fin.ext (by omega), Fin.ext (by omega)⟩
  · rintro ⟨h0, h1, h2⟩ a
    have h0 := congrArg Fin.val h0
    have h1 := congrArg Fin.val h1
    have h2 := congrArg Fin.val h2
    have h3 : (col i).val < 1024 := (i 3).isLt
    fin_cases a
    · show s.val ≤ (seg i).val ∧ (seg i).val < s.val + 1; omega
    · show d.val ≤ (dis i).val ∧ (dis i).val < d.val + 1; omega
    · show r.val ≤ (row i).val ∧ (row i).val < r.val + 1; omega
    · show 0 ≤ (col i).val ∧ (col i).val < 0 + 1024; omega

/-- An element of row `r` of slot `(s, d)` is where the row's view places its column. -/
theorem row_emb {off : Fin 4 → Nat} (inb : ∀ a, off a + S1x1x1x1024.size a ≤ S2x16x2x1024.size a) {s : Fin 2} {d : Fin 16} {r : Fin 2}
    (h : off = ![s.val, d.val, r.val, 0]) {i : S2x16x2x1024.Idx} (hi : seg i = s ∧ dis i = d ∧ row i = r) :
    i = (gM.access (Rect.unit (s := S2x16x2x1024) off S1x1x1x1024.size inb) : View sig .tc _ _ _).emb (at4 (col i)) := by
  subst h
  obtain ⟨rfl, rfl, rfl⟩ := hi
  funext a
  refine Fin.ext ?_
  show (i a).val = (![(seg i).val, (dis i).val, (row i).val, 0] : Fin 4 → Nat) a + 1 * (at4 (col i) a).val
  match a with
  | ⟨0, _⟩ => exact (Nat.add_zero _).symm
  | ⟨1, _⟩ => exact (Nat.add_zero _).symm
  | ⟨2, _⟩ => exact (Nat.add_zero _).symm
  | ⟨3, _⟩ => exact ((Nat.zero_add _).trans (Nat.one_mul _)).symm

/-- A store through a view leaves the payload at the element the view places it at. -/
theorem write_of_emb {s : Shape} (v : View sig .tc .vmem s .f32) (f : v.ty.Contents (Elt F)) (w : s.Idx → Elt F .f32) {i : v.ty.Idx} {x : s.Idx}
    (he : i = v.emb x) : v.write (Elt F) f w Finset.univ i = _root_.cast (congrArg (Elt F) v.elt_eq.symm) (w x) := by
  subst he
  exact View.write_emb_of_mem f w (Finset.mem_univ x)

/-- Off the view's elements it leaves the contents. -/
theorem write_off_set {s : Shape} (v : View sig .tc .vmem s .f32) (f : v.ty.Contents (Elt F)) (w : s.Idx → Elt F .f32) {i : v.ty.Idx}
    (hi : i ∉ v.set) : v.write (Elt F) f w Finset.univ i = f i := View.write_of_not_mem f w _ hi

/-- The contents `f` with row `r` of slot `(s, d)` replaced by `w`. -/
def rowUpd (s : Fin 2) (d : Fin 16) (r : Fin 2) (f : GBuf F) (w : Vec F S1x1x1x1024 .f32) : GBuf F :=
  fun i => if seg i = s ∧ dis i = d ∧ row i = r then w (at4 (col i)) else f i

theorem rowUpd_of {s : Fin 2} {d : Fin 16} {r : Fin 2} (f : GBuf F) (w : Vec F S1x1x1x1024 .f32) {i : S2x16x2x1024.Idx}
    (hi : seg i = s ∧ dis i = d ∧ row i = r) : rowUpd s d r f w i = w (at4 (col i)) := if_pos hi
theorem rowUpd_off {s : Fin 2} {d : Fin 16} {r : Fin 2} (f : GBuf F) (w : Vec F S1x1x1x1024 .f32) {i : S2x16x2x1024.Idx}
    (hi : ¬(seg i = s ∧ dis i = d ∧ row i = r)) : rowUpd s d r f w i = f i := if_neg hi

/-- What the candidate buffer holds after a store of `w` on row `r` of slot `(s, d)`. -/
theorem write_row {off : Fin 4 → Nat} (inb : ∀ a, off a + S1x1x1x1024.size a ≤ S2x16x2x1024.size a) {s : Fin 2} {d : Fin 16} {r : Fin 2}
    (h : off = ![s.val, d.val, r.val, 0]) (f : GBuf F) (w : Vec F S1x1x1x1024 .f32) :
    (gM.access (Rect.unit (s := S2x16x2x1024) off S1x1x1x1024.size inb) : View sig .tc _ _ _).write (Elt F) f w Finset.univ
      = rowUpd s d r f w := by
  have h1 : ∀ i : S2x16x2x1024.Idx, (gM.access (Rect.unit (s := S2x16x2x1024) off S1x1x1x1024.size inb) : View sig .tc _ _ _).write (Elt F) f w Finset.univ i
      = rowUpd s d r f w i := fun i => by
    rcases Classical.em (seg i = s ∧ dis i = d ∧ row i = r) with hi | hi
    · exact (write_of_emb (gM.access (Rect.unit (s := S2x16x2x1024) off S1x1x1x1024.size inb) : View sig .tc _ _ _) f w (row_emb inb h hi)).trans (rowUpd_of f w hi).symm
    · exact (write_off_set (gM.access (Rect.unit (s := S2x16x2x1024) off S1x1x1x1024.size inb) : View sig .tc _ _ _) f w fun hm => hi ((mem_row inb h).mp hm)).trans (rowUpd_off f w hi).symm
  exact funext h1

end Cert.ArgmaxProof
-- ==== Proof.Proto.lean ====
/-
What the candidate buffers hold, and the protocol of the exchange.

A device walks its 4096 rows in eight blocks. Blocks 0–3 make up segment 0, blocks 4–7 segment 1; over a segment the
device carries, column by column, the largest value met so far and the row it was met at. At the end of a segment it
sends that candidate to its fifteen peers. Before the first transfer every device tells its peers that their slots in
its buffer may be written: the peer's signal hands over those slots.
-/
module

public import proofs.«01_k».proof.Proof.Geom
public import Idealize.ShloMosaic.Lib.Transfers

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's ghost state (duties named by a distance) beside the pipeline's. -/
abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev defs₀ : Defs nD τ sig (Elt F) Λ₀ := Cert.KernelIdeal.defs₀
abbrev 𝒱₀ : Variants := Variants.none

/-! ## Contents -/

section Contents
variable (m : (ℓ : Loc nD τ sig) → Buf (Elt F) ℓ)

/-- Block `n` of the grid. -/
def gpt (n : ℕ) : Fin grid0.N := ⟨n % 8, by rw [N_0]; exact Nat.mod_lt _ (by decide)⟩

/-- The rows device `c` reads at block `n`, -/
def xblk (c : Dev nD) (n : ℕ) : Vec F S512x1024 .f32 :=
  (win0_0.blk (gpt n)).view.read (Elt F) (m ((c : Thread nD τ).loc main_arg0))
/-- their maximum per column, -/
def bmax (c : Dev nD) (n : ℕ) : FVec F S1024 .f32 := k0_pay7 (xblk m c n)
/-- and the row it is found at. -/
def bidx (c : Dev nD) (n : ℕ) : FVec F S1024 .f32 := k0_pay8 (grid0.coords (gpt n)) c (xblk m c n)

/-- The candidate (value, row) after block `n`: a segment starts from its first block's. -/
def cand (c : Dev nD) : ℕ → Vec F S1x1x1x1024 .f32 × Vec F S1x1x1x1024 .f32
  | 0 => (k0_pay9 (bmax m c 0), k0_pay10 (bidx m c 0))
  | n + 1 => if (n + 1) % 4 = 0 then (k0_pay9 (bmax m c (n + 1)), k0_pay10 (bidx m c (n + 1)))
      else (k0_pay13 (bmax m c (n + 1)) (cand c n).1, k0_pay14 (bmax m c (n + 1)) (bidx m c (n + 1)) (cand c n).1 (cand c n).2)

/-- A buffer whose every slot holds the candidate `p`. -/
def rows (p : Vec F S1x1x1x1024 .f32 × Vec F S1x1x1x1024 .f32) : GBuf F := fun i => (if row i = 0 then p.1 else p.2) (at4 (col i))

/-- What the slots hold at the end: slot `(s, d)` the candidate of segment `s` of the device `d` places before. -/
def gfin (c : Dev nD) : GBuf F := fun i => rows (cand m (dn c (dis i)) (4 * (seg i).val + 3)) i

/-- The kernel's result on device `c`. -/
def outMax (c : Dev nD) : Vec F S1x1024 .f32 :=
  k0_pay3 (gM.view.readAt (Elt F) (Rect.unit (s := S2x16x2x1024) ![0, 0, 0, 0] S2x16x1x1024.size inb_S2x16x2x1024_S2x16x1x1024_0_0_0_0).toLoadRect (gfin m c))
def outIdx (c : Dev nD) : Vec F S1x1024 .f32 :=
  k0_pay5 (k0_pay4 (gM.view.readAt (Elt F) (Rect.unit (s := S2x16x2x1024) ![0, 0, 0, 0] S2x16x1x1024.size inb_S2x16x2x1024_S2x16x1x1024_0_0_0_0).toLoadRect (gfin m c))
    (gM.view.readAt (Elt F) (Rect.unit (s := S2x16x2x1024) ![0, 0, 1, 0] S2x16x1x1024.size inb_S2x16x2x1024_S2x16x1x1024_0_0_1_0).toLoadRect (gfin m c)))
def outAt (c : Dev nD) : Vec F S2x1024 .f32 := fun x => if (x 0).val = 0 then outMax m c (ValueIdx.ix2 0 (x 1)) else outIdx m c (ValueIdx.ix2 0 (x 1))

/-- A block that starts a segment starts its candidate afresh, -/
theorem cand_init (c : Dev nD) (n : ℕ) (h : n % 4 = 0) : cand m c n = (k0_pay9 (bmax m c n), k0_pay10 (bidx m c n)) := by
  cases n with
  | zero => rfl
  | succ n => exact if_pos h
/-- any other combines it with what is carried. -/
theorem cand_comb (c : Dev nD) (n : ℕ) (h : ¬ (n + 1) % 4 = 0) :
    cand m c (n + 1) = (k0_pay13 (bmax m c (n + 1)) (cand m c n).1, k0_pay14 (bmax m c (n + 1)) (bidx m c (n + 1)) (cand m c n).1 (cand m c n).2) := if_neg h

theorem rows_row0 (p : Vec F S1x1x1x1024 .f32 × Vec F S1x1x1x1024 .f32) (s : Fin 2) (d : Fin 16) :
    (fun x : S1x1x1x1024.Idx => rows p (ValueIdx.ix4 s d 0 (x 3))) = p.1 := by
  funext x
  refine congrArg p.1 (funext fun a => ?_)
  fin_cases a
  · exact Fin.ext (by show 0 = (x 0).val; have h : (x 0).val < 1 := (x 0).isLt; omega)
  · exact Fin.ext (by show 0 = (x 1).val; have h : (x 1).val < 1 := (x 1).isLt; omega)
  · exact Fin.ext (by show 0 = (x 2).val; have h : (x 2).val < 1 := (x 2).isLt; omega)
  · rfl
theorem rows_row1 (p : Vec F S1x1x1x1024 .f32 × Vec F S1x1x1x1024 .f32) (s : Fin 2) (d : Fin 16) :
    (fun x : S1x1x1x1024.Idx => rows p (ValueIdx.ix4 s d 1 (x 3))) = p.2 := by
  funext x
  refine congrArg p.2 (funext fun a => ?_)
  fin_cases a
  · exact Fin.ext (by show 0 = (x 0).val; have h : (x 0).val < 1 := (x 0).isLt; omega)
  · exact Fin.ext (by show 0 = (x 1).val; have h : (x 1).val < 1 := (x 1).isLt; omega)
  · exact Fin.ext (by show 0 = (x 2).val; have h : (x 2).val < 1 := (x 2).isLt; omega)
  · rfl

/-- Both rows of a slot stored, the slot holds the candidate stored. -/
theorem rowUpd_both (s : Fin 2) (d : Fin 16) (f : GBuf F) (a b : Vec F S1x1x1x1024 .f32) {i : S2x16x2x1024.Idx} (hi : i ∈ slotSet s d) :
    rowUpd s d 1 (rowUpd s d 0 f a) b i = rows (a, b) i := by
  obtain ⟨hs, hd⟩ := mem_slotSet.mp hi
  unfold rows
  by_cases hr : row i = 0
  · rw [rowUpd_off _ _ (fun h => by rw [hr] at h; exact absurd h.2.2 (by decide)), rowUpd_of _ _ ⟨hs, hd, hr⟩, if_pos hr]
  · have hr' : row i = 1 := by
      have h2 : (row i).val < 2 := (row i).isLt
      have h0 : (row i).val ≠ 0 := fun h => hr (Fin.ext h)
      exact Fin.ext (by show (row i).val = 1; omega)
    rw [rowUpd_of _ _ ⟨hs, hd, hr'⟩, if_neg hr]

/-- A device's own slot ends with its own candidate of the segment. -/
theorem gfin_own (c : Dev nD) (s : Fin 2) {i : S2x16x2x1024.Idx} (hi : i ∈ slotSet s 0) : gfin m c i = rows (cand m c (4 * s.val + 3)) i := by
  obtain ⟨hs, hd⟩ := mem_slotSet.mp hi
  unfold gfin
  rw [hs, hd, show dn c 0 = c from (congrArg (up c) neg_zero).trans (up_zero c)]

/-- What slot `(s, 0)` of device `c` holds at the end is what slot `(s, d)` of the device `d` places after it holds. -/
theorem gfin_sent (c : Dev nD) (s : Fin 2) (d : Fin 16) (x : S2x1024.Idx) :
    gfin m (up c d) ((slotM s d).view.emb x) = gfin m c ((slotM s 0).view.emb x) := by
  obtain ⟨hs, hd⟩ := slot_emb_mem s d x
  rw [gfin_own m c s (View.emb_mem_set _ _)]
  obtain ⟨h2, h3⟩ := slot_emb_row s s d 0 x
  unfold gfin rows
  rw [show seg ((slotM s d).view.emb x) = s from hs, show dis ((slotM s d).view.emb x) = d from hd, dn_up,
    show row ((slotM s d).view.emb x) = row ((slotM s 0).view.emb x) from h2, show col ((slotM s d).view.emb x) = col ((slotM s 0).view.emb x) from h3]

end Contents

/-! ## Owning a slot -/

/-- Slot `(s, d)` of device `c`'s candidate buffer, at share `q`, with contents `f`. -/
def slotPts (c : Dev nD) (s : Fin 2) (d : Fin 16) (q : PosShare TreeShare) (f : GBuf F) : sProp 𝕄 :=
  (slotM s d).view.loc (c : Thread nD τ) ↦[(slotM s d).view.set]{q} f

omit [FloatOps F] in
instance slotPts_storable (c : Dev nD) (s : Fin 2) (d : Fin 16) (q : PosShare TreeShare) (f : GBuf F) :
    BI.Storable (upEmb : UEmb _ 𝕄) (slotPts c s d q f) := by unfold slotPts; infer_instance

omit [FloatOps F] in
theorem slotPts_congr (c : Dev nD) (s : Fin 2) (d : Fin 16) (q : PosShare TreeShare) {f g : GBuf F} (h : ∀ i ∈ slotSet s d, f i = g i) :
    (slotPts c s d q f : sProp 𝕄) = slotPts c s d q g := pointsTo_congr h

/-- The units one transfer of a slot credits. -/
abbrev N : ℕ := (slotM 0 0).view.dmaCredit
theorem N_pos : 0 < N := View.dmaCredit_pos _ (by decide)
theorem credit_eq (s : Fin 2) (d : Fin 16) : (slotM s d).view.dmaCredit = N := rfl

/-! ## The cells -/

abbrev barCell (c : Dev nD) : GSem nD τ sig := ((c : Thread nD τ), .reg barS)
abbrev dCell (c : Dev nD) (b s : Fin 2) (d : Fin 16) : GSem nD τ sig := ((c : Thread nD τ), .dma (dsem b s d))

/-- The cells of one device: its barrier, and its send and receive semaphores. -/
abbrev KI : Type := Unit ⊕ (Fin 2 × Fin 2 × Fin 16)
abbrev ksem : KI → SemLoc sig := fun | .inl _ => .reg barS | .inr j => .dma (dsem j.1 j.2.1 j.2.2)
abbrev kcell (ck : Dev nD × KI) : GSem nD τ sig := ((ck.1 : Thread nD τ), ksem ck.2)

/-! ## The schedule -/

section Sched
variable (m : (ℓ : Loc nD τ sig) → Buf (Elt F) ℓ)

/-- What the signal from `d` places after hands device `c`: the two slots of that device `c` transfers into. -/
def barPay (c : Dev nD) (d : Fin 16) : sProp 𝕄 :=
  iprop((∃ f, slotPts (up c d) 0 d fullShare f) ∗ (∃ f, slotPts (up c d) 1 d fullShare f))
/-- A transfer's completion hands back, at the sender, the share of its own slot the transfer read; -/
def sendPay (c : Dev nD) (s : Fin 2) (d : Fin 16) : sProp 𝕄 := slotPts c s 0 (Transfers.shareTokN fullShare d.val) (gfin m c)
/-- at the receiver, the slot holding the sender's candidate. -/
def recvPay (c : Dev nD) (s : Fin 2) (d : Fin 16) : sProp 𝕄 := slotPts c s d fullShare (gfin m c)

/-- The segment and the distance a DMA semaphore serves. -/
def qSeg (q : DmaSem sig) : Fin 2 := ⟨(q.val - 3) / 16 % 2, Nat.mod_lt _ (by decide)⟩
def qDis (q : DmaSem sig) : Fin 16 := ⟨(q.val - 3) % 16, Nat.mod_lt _ (by decide)⟩

theorem dsem_val (b s : Fin 2) (d : Fin 16) : (dsem b s d).val = 3 + 32 * b.val + 16 * s.val + d.val := rfl
theorem qSeg_dsem (b s : Fin 2) (d : Fin 16) : qSeg (dsem b s d) = s := by
  unfold qSeg; refine Fin.ext ?_; show ((dsem b s d).val - 3) / 16 % 2 = s.val; rw [dsem_val]; omega
theorem qDis_dsem (b s : Fin 2) (d : Fin 16) : qDis (dsem b s d) = d := by
  unfold qDis; refine Fin.ext ?_; show ((dsem b s d).val - 3) % 16 = d.val; rw [dsem_val]; omega

/-- The duties of a semaphore: the barrier's fifteen, one of each transfer's, none of the rest. -/
def dutyOf : SemLoc sig → Finset (Fin 16)
  | .reg _ => Finset.univ.erase 0
  | .dma q => if 3 ≤ q.val ∧ qDis q ≠ 0 then {0} else ∅

def payOf (c : Dev nD) (d : Fin 16) : SemLoc sig → sProp 𝕄
  | .reg _ => barPay c d
  | .dma q => if q.val < 35 then sendPay m c (qSeg q) (qDis q) else recvPay m c (qSeg q) (qDis q)

def amtOf : SemLoc sig → ℕ
  | .reg _ => 1
  | .dma _ => N

/-- One round: every peer signals the barrier once, every transfer completes once at either end. -/
def Rd : Rounds.Schedule (GSem nD τ sig) (Fin 16) 𝕄 where
  duties g r := if r = 0 ∧ g.1.2 = .tc then dutyOf g.2 else ∅
  unitless _ := False
  amount g _ _ := amtOf g.2
  payload g _ d := payOf m g.1.1 d g.2
  amount_pos g _ _ _ := by
    cases g.2 with
    | reg _ => exact Nat.one_pos
    | dma _ => exact N_pos

instance Rd_payload_storable (g : GSem nD τ sig) (r : ℕ) (d : Fin 16) :
    BI.Storable (upEmb : UEmb _ 𝕄) ((Rd (F := F) m).payload g r d) := by
  show BI.Storable upEmb (payOf m g.1.1 d g.2)
  unfold payOf barPay sendPay recvPay
  (repeat' split) <;> infer_instance

variable (c : Dev nD)

theorem duties_tc (sm : SemLoc sig) : (Rd (F := F) m).duties ((c : Thread nD τ), sm) 0 = dutyOf sm := by dsimp only [Rd]; exact if_pos ⟨rfl, rfl⟩
theorem duties_bar : (Rd (F := F) m).duties (barCell c) 0 = Finset.univ.erase 0 := duties_tc m c _
theorem duties_dma (b s : Fin 2) {d : Fin 16} (hd : d ≠ 0) : (Rd (F := F) m).duties (dCell c b s d) 0 = {0} := by
  rw [duties_tc]
  exact if_pos ⟨by rw [dsem_val]; omega, by rw [qDis_dsem]; exact hd⟩
theorem duties_dma_zero (b s : Fin 2) : (Rd (F := F) m).duties (dCell c b s 0) 0 = ∅ := by
  rw [duties_tc]
  exact if_neg fun h => h.2 (qDis_dsem b s 0)
theorem duties_later (g : GSem nD τ sig) : ∀ r, 1 ≤ r → (Rd (F := F) m).duties g r = ∅ :=
  fun r hr => if_neg fun h => by omega
theorem duties_none (b s : Fin 2) : ∀ r, 0 ≤ r → (Rd (F := F) m).duties (dCell c b s 0) r = ∅ := fun r _ => by
  cases r with
  | zero => exact duties_dma_zero m c b s
  | succ r => exact duties_later m _ _ (Nat.succ_pos r)

theorem amount_bar (d : Fin 16) : (Rd (F := F) m).amount (barCell c) 0 d = 1 := rfl
theorem amount_dma (b s : Fin 2) (d e : Fin 16) : (Rd (F := F) m).amount (dCell c b s d) 0 e = N := rfl

theorem expect_bar : (Rd (F := F) m).expect (barCell c) 0 = 15 := by
  unfold Schedule.expect Schedule.amountOf
  rw [duties_bar, Finset.sum_congr rfl fun d _ => amount_bar m c d, Finset.sum_const]; rfl
theorem expect_dma (b s : Fin 2) {d : Fin 16} (hd : d ≠ 0) : (Rd (F := F) m).expect (dCell c b s d) 0 = N := by
  unfold Schedule.expect Schedule.amountOf; rw [duties_dma m c b s hd, Finset.sum_singleton, amount_dma]

theorem payload_bar (d : Fin 16) : (Rd (F := F) m).payload (barCell c) 0 d = barPay c d := rfl
theorem payload_send (s : Fin 2) (d e : Fin 16) : (Rd (F := F) m).payload (dCell c 0 s d) 0 e = sendPay m c s d := by
  refine (if_pos ?_).trans ?_
  · rw [dsem_val]; show 3 + 32 * 0 + 16 * s.val + d.val < 35; omega
  · rw [qSeg_dsem, qDis_dsem]
theorem payload_recv (s : Fin 2) (d e : Fin 16) : (Rd (F := F) m).payload (dCell c 1 s d) 0 e = recvPay m c s d := by
  refine (if_neg ?_).trans ?_
  · rw [dsem_val]; show ¬ 3 + 32 * 1 + 16 * s.val + d.val < 35; omega
  · rw [qSeg_dsem, qDis_dsem]

theorem rest_bar : bigSep ((Rd (F := F) m).duties (barCell c) 0 \ ∅) (fun d => (Rd (F := F) m).payload (barCell c) 0 d)
    = bigSepL ds fun d => barPay c d := by
  rw [Finset.sdiff_empty, duties_bar]
  exact bigSep_eq_bigSepL_of_eq ds (by decide) (by decide) _
theorem rest_send (s : Fin 2) {d : Fin 16} (hd : d ≠ 0) :
    bigSep ((Rd (F := F) m).duties (dCell c 0 s d) 0 \ ∅) (fun e => (Rd (F := F) m).payload (dCell c 0 s d) 0 e) = sendPay m c s d := by
  rw [Finset.sdiff_empty, duties_dma m c 0 s hd, bigSep_singleton, payload_send]
theorem rest_recv (s : Fin 2) {d : Fin 16} (hd : d ≠ 0) :
    bigSep ((Rd (F := F) m).duties (dCell c 1 s d) 0 \ ∅) (fun e => (Rd (F := F) m).payload (dCell c 1 s d) 0 e) = recvPay m c s d := by
  rw [Finset.sdiff_empty, duties_dma m c 1 s hd, bigSep_singleton, payload_recv]

end Sched

/-! ## What a device owes; the levels -/

/-- The tallies `f k` of a list, on top of `R`, the list's first owed outermost. -/
def owe (R : CellTallies nD τ sig Unit) (f : Fin 16 → CellTallies nD τ sig Unit) : List (Fin 16) → CellTallies nD τ sig Unit
  | [] => R
  | k :: l => owe R f l + f k

/-- One unit to the barrier of the device `k` places after; -/
abbrev barT (c : Dev nD) (k : Fin 16) : CellTallies nD τ sig Unit := tallyAt (barCell (up c k)) () 1
/-- a transfer's units to its receive semaphore. -/
abbrev recvT (c : Dev nD) (s : Fin 2) (d : Fin 16) : CellTallies nD τ sig Unit := tallyAt (dCell (up c d) 1 s d) () N

/-- What is owed from the end of segment 0's transfers on, from the signals on, at the start. -/
abbrev O₂ (c : Dev nD) : CellTallies nD τ sig Unit := owe 0 (recvT c 1) ds
abbrev O₁ (c : Dev nD) : CellTallies nD τ sig Unit := owe (O₂ c) (recvT c 0) ds
abbrev O₀ (c : Dev nD) : CellTallies nD τ sig Unit := owe (O₁ c) (barT c) ds

def L (g : GSem nD τ sig) : Finset Unit := if g.1.2 = .tc then {()} else ∅
/-- The barrier at 1, the receive semaphores at 2, the rest at 0. -/
def lvOf : SemLoc sig → ℕ
  | .reg _ => 1
  | .dma q => if 35 ≤ q.val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem owe_pos (R : CellTallies nD τ sig Unit) (f : Fin 16 → CellTallies nD τ sig Unit) (l : List (Fin 16)) {g : GSem nD τ sig} {u : Unit}
    (h : 0 < owe R f l g u) : 0 < R g u ∨ ∃ k, 0 < f k g u := by
  induction l with
  | nil => exact .inl h
  | cons k l ih =>
    unfold owe at h
    rw [Pi.add_apply, Finsupp.add_apply] at h
    rcases Nat.eq_zero_or_pos (owe R f l g u) with h0 | h0
    · exact .inr ⟨k, by rw [h0, Nat.zero_add] at h; exact h⟩
    · exact ih h0

theorem tally_pos {g' g : GSem nD τ sig} {n : ℕ} {u : Unit} (h : 0 < tallyAt g' () n g u) : g = g' := by
  rw [tallyAt_apply] at h
  by_contra hn
  rw [if_neg fun h' => hn h'.1] at h
  exact Nat.lt_irrefl 0 h

/-- A device waits at level `n` owing only what lies above it. -/
theorem mayWait_of (c : Dev nD) (sm : SemLoc sig) (n : ℕ) (hn : lvOf sm = n) (O : CellTallies nD τ sig Unit)
    (hO : ∀ g u, 0 < O g u → g.1.2 = .tc ∧ n < lvOf g.2) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact Nat.le_of_eq hn)
    (fun g u hg => (hO g u hg).2)

theorem recvT_pos {c : Dev nD} {s : Fin 2} {d : Fin 16} {g : GSem nD τ sig} {u : Unit} (h : 0 < recvT c s d g u) : g.1.2 = .tc ∧ 1 < lvOf g.2 := by
  rw [tally_pos h]
  refine ⟨rfl, ?_⟩
  show 1 < if 35 ≤ (dsem 1 s d).val then 2 else 0
  rw [if_pos (by rw [dsem_val]; show 35 ≤ 3 + 32 * 1 + _ + _; omega)]; decide
theorem barT_pos {c : Dev nD} {k : Fin 16} {g : GSem nD τ sig} {u : Unit} (h : 0 < barT c k g u) : g.1.2 = .tc ∧ 0 < lvOf g.2 := by
  rw [tally_pos h]; exact ⟨rfl, Nat.one_pos⟩

theorem O₂_pos {c : Dev nD} {g : GSem nD τ sig} {u : Unit} (h : 0 < O₂ c g u) : g.1.2 = .tc ∧ 1 < lvOf g.2 := by
  rcases owe_pos _ _ _ h with h | ⟨k, h⟩
  · exact absurd h (Nat.lt_irrefl 0)
  · exact recvT_pos h
theorem O₁_pos {c : Dev nD} {g : GSem nD τ sig} {u : Unit} (h : 0 < O₁ c g u) : g.1.2 = .tc ∧ 1 < lvOf g.2 := by
  rcases owe_pos _ _ _ h with h | ⟨k, h⟩
  · exact O₂_pos h
  · exact recvT_pos h
theorem O₀_pos {c : Dev nD} {g : GSem nD τ sig} {u : Unit} (h : 0 < O₀ c g u) : g.1.2 = .tc ∧ 0 < lvOf g.2 := by
  rcases owe_pos _ _ _ h with h | ⟨k, h⟩
  · exact ⟨(O₁_pos h).1, Nat.lt_of_succ_lt (O₁_pos h).2⟩
  · exact barT_pos h

/-- What is owed before block `n`: the signals go out in block 0, the transfers in blocks 3 and 7. -/
def owedAt (c : Dev nD) (n : ℕ) : CellTallies nD τ sig Unit := if n = 0 then O₀ c else if n ≤ 3 then O₁ c else if n ≤ 7 then O₂ c else 0

theorem owedAt_pos {c : Dev nD} {n : ℕ} {g : GSem nD τ sig} {u : Unit} (h : 0 < owedAt c n g u) : g.1.2 = .tc ∧ 0 < lvOf g.2 := by
  unfold owedAt at h
  split at h
  · exact O₀_pos h
  split at h
  · exact ⟨(O₁_pos h).1, Nat.lt_of_succ_lt (O₁_pos h).2⟩
  split at h
  · exact ⟨(O₂_pos h).1, Nat.lt_of_succ_lt (O₂_pos h).2⟩
  · exact absurd h (Nat.lt_irrefl 0)

/-- At its barrier wait a device owes its transfers' units only. -/
theorem mayWait_bar (c : Dev nD) : (levAts L lv : sProp 𝕄) ⊢ MayWait (c : Thread nD τ) (.reg barS) () (O₁ c) :=
  mayWait_of c _ 1 rfl _ fun _ _ h => O₁_pos h

/-- A wait of the pipeline's own, on a staging semaphore. -/
theorem mayWait_stage (c : Dev nD) (q : DmaSem sig) (hq : q.val < 35) (n : ℕ) :
    (levAts L lv : sProp 𝕄) ⊢ MayWait (c : Thread nD τ) (.dma q) () (owedAt c n) :=
  mayWait_of c _ 0 (by show (if 35 ≤ q.val then 2 else 0) = 0; exact if_neg (Nat.not_le.mpr hq)) _ fun _ _ h => owedAt_pos h

end Cert.ArgmaxProof
-- ==== Proof.Shapes.lean ====
/-
The kernel's body, block by block, as lists of the operations it repeats for every peer.

A block of the grid takes one of five shapes: the first (signals, then a fresh candidate), one that only carries the
candidate on, the end of segment 0 (carry on, wait for the peers' signals, send), the start of segment 1, and the last
(carry on, send, receive, reduce). In each the fifteen operations on the peers are one operation mapped over a list.
-/
module

public import proofs.«01_k».proof.Proof.Proto

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "PG" => Prog (TpuEff nD τ sig (Elt F) Λ₀ (Proc.tc : Proc τ)) PUnit

/-- One unit to the barrier of every device listed, then `k`. -/
def signals (k : PG) : List (Fin 16 × Dev nD) → PG
  | [] => k
  | e :: l => .op (.semSignal (Dev.tc e.2) barS (1#32 : BitVec 32).toInt) fun _ => signals k l

/-- The device's candidate of segment `s` to every device listed, then `k`. -/
def sends (s : Fin 2) (k : PG) : List (Fin 16 × Dev nD) → PG
  | [] => k
  | e :: l => .op (.enqueueDma (slotM s 0) (.remote (Dev.tc e.2) (slotM s e.1) (.dma (semAt cc0_scratch1 s e.1))) (.dma (semAt cc0_scratch2 s e.1))
      ((View.wordExact_bits rfl).reshape _ _) ((View.wordExact_bits rfl).reshape _ _) ⟨⟨rfl, Or.inl rfl⟩, trivial⟩) fun _ => sends s k l

/-- Wait for the candidates from every distance listed, then `k`. -/
def recvs (s : Fin 2) (k : PG) : List (Fin 16) → PG
  | [] => k
  | d :: l => .op (.waitDma2 (semAt cc0_scratch2 s d) (slotM s 0) (slotM s d) ((View.wordExact_bits rfl).reshape _ _) ((View.wordExact_bits rfl).reshape _ _))
      fun _ => recvs s k l

/-- Wait for the device's own transfers to every distance listed, then `k`. -/
def sents (s : Fin 2) (k : PG) : List (Fin 16) → PG
  | [] => k
  | d :: l => .op (.waitDma2 (semAt cc0_scratch1 s d) (slotM s d) (slotM s 0) ((View.wordExact_bits rfl).reshape _ _) ((View.wordExact_bits rfl).reshape _ _))
      fun _ => sents s k l

variable (i : grid0.Coords)

/-- Load row by row, store the fresh candidate `(a, b)`, then `k`. -/
def initP (h2 : k0_cond2 i = 1#1) (a b : FVec F S1024 .f32) (k : PG) : PG :=
  .op (.load gM (Rect.unit (s := S2x16x2x1024) (k0_off1 i) S1x1x1x1024.size (k0_off1_inb i h2)).toLoadRect (View.loadsAt_vmem h_S1x1x1x1024)) fun _ =>
  .op (.store gM (Rect.unit (s := S2x16x2x1024) (k0_off1 i) S1x1x1x1024.size (k0_off1_inb i h2)) (k0_pay9 a) Finset.univ (View.stores_vmem_bits_univ h_S1x1x1x1024 rfl) (.inl rfl)) fun _ =>
  .op (.load gM (Rect.unit (s := S2x16x2x1024) (k0_off2 i) S1x1x1x1024.size (k0_off2_inb i h2)).toLoadRect (View.loadsAt_vmem h_S1x1x1x1024)) fun _ =>
  .op (.store gM (Rect.unit (s := S2x16x2x1024) (k0_off2 i) S1x1x1x1024.size (k0_off2_inb i h2)) (k0_pay10 b) Finset.univ (View.stores_vmem_bits_univ h_S1x1x1x1024 rfl) (.inl rfl)) fun _ => k

/-- Load the candidate, store it combined with the block's `(a, b)`, then `k`. -/
def combP (h3 : k0_cond3 i = 1#1) (a b : FVec F S1024 .f32) (k : PG) : PG :=
  .op (.load gM (Rect.unit (s := S2x16x2x1024) (k0_off3 i) S1x1x1x1024.size (k0_off3_inb i h3)).toLoadRect (View.loadsAt_vmem h_S1x1x1x1024)) fun v =>
  .op (.load gM (Rect.unit (s := S2x16x2x1024) (k0_off3 i) S1x1x1x1024.size (k0_off3_inb i h3)).toLoadRect (View.loadsAt_vmem h_S1x1x1x1024)) fun _ =>
  .op (.store gM (Rect.unit (s := S2x16x2x1024) (k0_off3 i) S1x1x1x1024.size (k0_off3_inb i h3)) (k0_pay13 a v) Finset.univ (View.stores_vmem_bits_univ h_S1x1x1x1024 rfl) (.inl rfl)) fun _ =>
  .op (.load gM (Rect.unit (s := S2x16x2x1024) (k0_off4 i) S1x1x1x1024.size (k0_off4_inb i h3)).toLoadRect (View.loadsAt_vmem h_S1x1x1x1024)) fun w =>
  .op (.load gM (Rect.unit (s := S2x16x2x1024) (k0_off4 i) S1x1x1x1024.size (k0_off4_inb i h3)).toLoadRect (View.loadsAt_vmem h_S1x1x1x1024)) fun _ =>
  .op (.store gM (Rect.unit (s := S2x16x2x1024) (k0_off4 i) S1x1x1x1024.size (k0_off4_inb i h3)) (k0_pay14 a b v w) Finset.univ (View.stores_vmem_bits_univ h_S1x1x1x1024 rfl) (.inl rfl)) fun _ => k

variable (arg1 : Memref sig .tc .vmem S512x1024 .f32) (harg1 : arg1.IsWhole) (arg2 : Memref sig .tc .vmem S2x1024 .f32) (harg2 : arg2.IsWhole)

/-- Load the block's rows. -/
def loadX (k : Vec F S512x1024 .f32 → PG) : PG :=
  .op (.load arg1 (Rect.unit (s := S512x1024) ![0, 0] S512x1024.size inb_S512x1024_S512x1024_0_0).toLoadRect (View.loadsAt_vmem h_S512x1024)) k

/-- Load every slot, reduce, store the two rows of the result, then `k`. -/
def reduceP (k : PG) : PG :=
  .op (.load gM (Rect.unit (s := S2x16x2x1024) ![0, 0, 0, 0] S2x16x1x1024.size inb_S2x16x2x1024_S2x16x1x1024_0_0_0_0).toLoadRect (View.loadsAt_vmem h_S2x16x1x1024)) fun v =>
  .op (.load gM (Rect.unit (s := S2x16x2x1024) ![0, 0, 1, 0] S2x16x1x1024.size inb_S2x16x2x1024_S2x16x1x1024_0_0_1_0).toLoadRect (View.loadsAt_vmem h_S2x16x1x1024)) fun w =>
  .op (.load arg2 (Rect.unit (s := S2x1024) ![0, 0] S1x1024.size inb_S2x1024_S1x1024_0_0).toLoadRect (View.loadsAt_vmem h_S1x1024)) fun _ =>
  .op (.store arg2 (Rect.unit (s := S2x1024) ![0, 0] S1x1024.size inb_S2x1024_S1x1024_0_0) (k0_pay3 v) Finset.univ (View.stores_vmem_bits_univ h_S1x1024 rfl) (.inl rfl)) fun _ =>
  .op (.load arg2 (Rect.unit (s := S2x1024) ![1, 0] S1x1024.size inb_S2x1024_S1x1024_1_0).toLoadRect (View.loadsAt_vmem h_S1x1024)) fun _ =>
  .op (.store arg2 (Rect.unit (s := S2x1024) ![1, 0] S1x1024.size inb_S2x1024_S1x1024_1_0) (k0_pay5 (k0_pay4 v w)) Finset.univ (View.stores_vmem_bits_univ h_S1x1024 rfl) (.inl rfl)) fun _ => k

local notation "BODY" => cc0_body (F := F) i arg1 harg1 arg2 harg2 gM (Memref.isWhole_whole _) cc0_scratch1 cc0_scratch2

set_option maxRecDepth 65536 in
set_option maxHeartbeats 4000000 in
/-- The first block. -/
theorem body_first (h1 : k0_cond1 i = 1#1) (h2 : k0_cond2 i = 1#1) (h3 : ¬ k0_cond3 i = 1#1) (h4 : ¬ k0_cond4 i = 1#1) (h8 : ¬ k0_cond8 i = 1#1) :
    BODY = .op .deviceId fun c => signals (loadX arg1 fun v => initP i h2 (k0_pay7 v) (k0_pay8 i c v) (.ret ⟨⟩)) (ds.map fun d => (d, up c d)) := by
  rw [cc0_body_eq_skeleton]; unfold cc0_body_skel
  rw [k0_part58_eq_skeleton, k0_part59_eq_skeleton]; unfold k0_part58_skel k0_part59_skel
  simp only [dif_pos h1, dif_pos h2, dif_neg h3, dif_neg h4, dif_neg h8, ← sig_list i h1]
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, Prog.bind_op, Prog.lift, Prog.bind_ret, Prog.pure_eq_ret]
  rfl

set_option maxRecDepth 65536 in
set_option maxHeartbeats 4000000 in
/-- A block that only carries the candidate on. -/
theorem body_mid (h1 : ¬ k0_cond1 i = 1#1) (h2 : ¬ k0_cond2 i = 1#1) (h3 : k0_cond3 i = 1#1) (h4 : ¬ k0_cond4 i = 1#1) (h8 : ¬ k0_cond8 i = 1#1) :
    BODY = .op .deviceId fun c => loadX arg1 fun v => combP i h3 (k0_pay7 v) (k0_pay8 i c v) (.ret ⟨⟩) := by
  rw [cc0_body_eq_skeleton]; unfold cc0_body_skel
  rw [k0_part58_eq_skeleton, k0_part59_eq_skeleton]; unfold k0_part58_skel k0_part59_skel
  simp only [dif_neg h1, dif_neg h2, dif_pos h3, dif_neg h4, dif_neg h8]
  simp only [Prog.bind_op, Prog.lift, Prog.bind_ret, Prog.pure_eq_ret]
  rfl

set_option maxRecDepth 65536 in
set_option maxHeartbeats 4000000 in
/-- The block that starts segment 1. -/
theorem body_start (h1 : ¬ k0_cond1 i = 1#1) (h2 : k0_cond2 i = 1#1) (h3 : ¬ k0_cond3 i = 1#1) (h4 : ¬ k0_cond4 i = 1#1) (h8 : ¬ k0_cond8 i = 1#1) :
    BODY = .op .deviceId fun c => loadX arg1 fun v => initP i h2 (k0_pay7 v) (k0_pay8 i c v) (.ret ⟨⟩) := by
  rw [cc0_body_eq_skeleton]; unfold cc0_body_skel
  rw [k0_part58_eq_skeleton, k0_part59_eq_skeleton]; unfold k0_part58_skel k0_part59_skel
  simp only [dif_neg h1, dif_pos h2, dif_neg h3, dif_neg h4, dif_neg h8]
  simp only [Prog.bind_op, Prog.lift, Prog.bind_ret, Prog.pure_eq_ret]
  rfl

set_option maxRecDepth 65536 in
set_option maxHeartbeats 4000000 in
/-- The block that ends segment 0. -/
theorem body_send (h1 : ¬ k0_cond1 i = 1#1) (h2 : ¬ k0_cond2 i = 1#1) (h3 : k0_cond3 i = 1#1) (h4 : k0_cond4 i = 1#1)
    (h5 : Scalar.cmpi .ne (Scalar.extui (Scalar.cmpi .eq (BitVec.ofNat 32 (i 0).val) 3#32) : BitVec 32) 0#32 = 1#1) (h6 : k0_cond6 i = 1#1)
    (h7 : ¬ k0_cond7 i = 1#1) (h8 : ¬ k0_cond8 i = 1#1) :
    BODY = .op .deviceId fun c => loadX arg1 fun v => combP i h3 (k0_pay7 v) (k0_pay8 i c v)
      (.op (.semWait barS (15#32 : BitVec 32).toInt) fun _ => sends 0 (.ret ⟨⟩) (ds.map fun d => (d, up c d))) := by
  rw [cc0_body_eq_skeleton]; unfold cc0_body_skel
  rw [k0_part58_eq_skeleton, k0_part59_eq_skeleton]; unfold k0_part58_skel k0_part59_skel
  simp only [dif_neg h1, dif_neg h2, dif_pos h3, dif_pos h4, dif_pos h6, dif_neg h7, dif_neg h8, ← send_list0 i h4 h6]
  simp only [Prog.bind_op, Prog.lift, Prog.bind_ret, Prog.pure_eq_ret]
  simp only [dif_pos h5]
  rfl

set_option maxRecDepth 65536 in
set_option maxHeartbeats 8000000 in
/-- The last block. -/
theorem body_last (h1 : ¬ k0_cond1 i = 1#1) (h2 : ¬ k0_cond2 i = 1#1) (h3 : k0_cond3 i = 1#1) (h4 : k0_cond4 i = 1#1)
    (h5 : ¬ Scalar.cmpi .ne (Scalar.extui (Scalar.cmpi .eq (BitVec.ofNat 32 (i 0).val) 3#32) : BitVec 32) 0#32 = 1#1) (h6 : ¬ k0_cond6 i = 1#1)
    (h7 : k0_cond7 i = 1#1) (h8 : k0_cond8 i = 1#1) :
    BODY = .op .deviceId fun c => loadX arg1 fun v => combP i h3 (k0_pay7 v) (k0_pay8 i c v)
      (sends 1 (recvs 0 (recvs 1 (reduceP arg2 (sents 0 (sents 1 (.ret ⟨⟩) ds) ds)) ds) ds) (ds.map fun d => (d, up c d))) := by
  rw [cc0_body_eq_skeleton]; unfold cc0_body_skel
  rw [k0_part58_eq_skeleton, k0_part59_eq_skeleton]; unfold k0_part58_skel k0_part59_skel
  simp only [dif_neg h1, dif_neg h2, dif_pos h3, dif_pos h4, dif_neg h6, dif_pos h7, dif_pos h8, ← send_list1 i h4 h7]
  simp only [Prog.bind_op, Prog.lift, Prog.bind_ret, Prog.pure_eq_ret]
  simp only [dif_neg h5]
  rfl

end Cert.ArgmaxProof
-- ==== Proof.Steps.lean ====
/-
The runs of the repeated operations: the signals, the transfers, the waits.
-/
module

public import proofs.«01_k».proof.Proof.Shapes

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "PG" => Prog (TpuEff nD τ sig (Elt F) Λ₀ (Proc.tc : Proc τ)) PUnit

variable (m : (ℓ : Loc nD τ sig) → Buf (Elt F) ℓ) (K : Dev nD × KI → ℕ)

/-- Every cell's invariant, and that its round has begun. -/
def records : sProp 𝕄 :=
  bigSep Finset.univ fun ck : Dev nD × KI => iprop(cellInv ER (Rd m) (K ck) (kcell ck) ∗ reached ER (kcell ck) 0)

instance records_persistent : BI.Persistent (records m K) := by unfold records; infer_instance

/-- One cell's record. -/
theorem rec_at (ck : Dev nD × KI) : records m K ⊢ iprop(cellInv ER (Rd m) (K ck) (kcell ck) ∗ reached ER (kcell ck) 0) :=
  bigSep_elim (Finset.mem_univ ck)
theorem rec_bar (c : Dev nD) : records m K ⊢ iprop(cellInv ER (Rd m) (K (c, .inl ())) (barCell c) ∗ reached ER (barCell c) 0) := rec_at m K (c, .inl ())
theorem rec_dma (c : Dev nD) (b s : Fin 2) (d : Fin 16) :
    records m K ⊢ iprop(cellInv ER (Rd m) (K (c, .inr (b, s, d))) (dCell c b s d) ∗ reached ER (dCell c b s d) 0) := rec_at m K (c, .inr (b, s, d))

/-- Device `c`'s run of `P`. -/
abbrev WP (c : Dev nD) (P : PG) (Q : PUnit → sProp 𝕄) : sProp 𝕄 :=
  wp frame (wpE (defs₀ (F := F)) 𝒱₀ (c : Thread nD τ) none) Set.univ P Q

/-- What device `c` owes, whatever it has waited for. -/
def ow (c : Dev nD) (O : CellTallies nD τ sig Unit) : sProp 𝕄 := iprop(∃ W, owes (c : Thread nD τ) O W)

/-- The signals: each pays its peer's barrier one unit and hands over the slots that peer writes. -/
theorem wp_signals {k : PG} {Q : PUnit → sProp 𝕄} (c : Dev nD) (R : CellTallies nD τ sig Unit) (l : List (Fin 16)) (hl : ∀ d ∈ l, d ≠ 0) :
    iprop(records m K ∗ ow c (owe R (barT c) l)
        ∗ bigSepL l (fun d => dutyTok ER (barCell (up c d)) 0 (neg d)) ∗ bigSepL l (fun d => barPay (up c d) (neg d)))
      ⊢ iprop((ow c R -∗ WP c k Q) -∗ WP c (signals k (l.map fun d => (d, up c d))) Q) := by
  induction l with
  | nil =>
    iintro ⟨-, HO, -, -⟩ Hk
    iapply Hk; iexact HO
  | cons d l ih =>
    rw [bigSepL_cons', bigSepL_cons', List.map_cons]
    unfold ow signals
    iintro ⟨#Hrec, ⟨%W, HO⟩, ⟨Ht, Hts⟩, ⟨Hp, Hps⟩⟩ Hk
    ihave Hr := (rec_bar m K (up c d)) $$ Hrec
    icases Hr with ⟨#HI, #Hrd⟩
    iapply (Rounds.wp_signal 𝒱₀ ER (Rd m) (c : Thread nD τ) none (dst := (up c d : Thread nD τ)) (κ := K (up c d, .inl ()))
        (d := neg d) (by rw [duties_bar]; exact Finset.mem_erase.mpr ⟨neg_ne_zero d (hl d (List.mem_cons_self)), Finset.mem_univ _⟩)
        ((amount_bar m (up c d) (neg d)).trans (by decide)) () (owe R (barT c) l) rfl)
      $$ [HO Ht Hp]
    · isplitr; · iexact HI
      isplitl [HO]; · iexact HO
      isplitl [Ht]; · iexact Ht
      isplitl [Hp]; · rw [payload_bar]; iexact Hp
      iexact Hrd
    iintro HO
    iapply (ih fun d' h => hl d' (List.mem_cons_of_mem _ h)) $$ [HO Hts Hps]
    · isplitr; · iexact Hrec
      isplitl [HO]; · unfold ow; iexists W; iexact HO
      isplitl [Hts] <;> iassumption
    unfold ow
    iexact Hk

/-- What a transfer of the device's own slot writes over the peer's slot. -/
theorem landed (c : Dev nD) (s : Fin 2) (d : Fin 16) (fn : GBuf F) : ∀ i ∈ (slotM s d).view.set,
    (slotM s d).view.write (Elt F) fn ((slotM s 0).view.read (Elt F) (gfin m c)) Finset.univ i = gfin m (up c d) i := fun i hi => by
  obtain ⟨x, -, rfl⟩ := Finset.mem_map.mp hi
  exact (write_of_emb (slotM s d).view fn _ rfl).trans (gfin_sent m c s d x).symm

/-- One transfer, addressed by its semaphores and device up to equality. -/
theorem wp_send_one {Q : PUnit → sProp 𝕄} (c n : Dev nD) (s : Fin 2) (d : Fin 16) (hd : d ≠ 0) (hn : n = up c d) (qS qR : DmaSem sig) (hS : qS = dsem 0 s d) (hR : qR = dsem 1 s d)
    {hsc : (slotM s d : Memref sig (Dev.tc n : Thread nD τ).2.kind .vmem S2x1024 .f32).view.ref.isScScratch = false}
    {hsrc : (slotM s 0).view.WordExact} {hdst : (slotM s d).view.WordExact}
    {hsem : DmaTarget.Typed .vmem (.dma qR) (.remote (Dev.tc n : Thread nD τ) (slotM s d) (.dma qS) hsc)}
    {kk : PUnit → PG} (O : CellTallies nD τ sig Unit) (fn : GBuf F) :
    iprop(records m K ∗ ow c (O + recvT c s d) ∗ sendPay m c s d ∗ slotPts (up c d) s d fullShare fn
        ∗ dutyTok ER (dCell c 0 s d) 0 0 ∗ dutyTok ER (dCell (up c d) 1 s d) 0 0)
      ⊢ iprop(((ow c O ∗ cred (tallyAt (dCell c 0 s d) () N)) -∗ WP c (kk ⟨⟩) Q)
          -∗ WP c (.op (.enqueueDma (slotM s 0) (.remote (Dev.tc n : Thread nD τ) (slotM s d) (.dma qS) hsc) (.dma qR) hsrc hdst hsem) kk) Q) := by
  subst hn hS hR
  unfold ow
  iintro ⟨#Hrec, ⟨%W, HO⟩, Hsrc, Hdst, Ht, Ht'⟩ Hk
  ihave Hr := (rec_dma m K c 0 s d) $$ Hrec
  icases Hr with ⟨#HI, #Hrd⟩
  ihave Hr' := (rec_dma m K (up c d) 1 s d) $$ Hrec
  icases Hr' with ⟨#HI', #Hrd'⟩
  unfold sendPay slotPts
  iapply (Rounds.wp_send_pointsTo 𝒱₀ ER (Rd m) (c : Thread nD τ) none (κ₁ := K (c, .inr (0, s, d))) (κ₂ := K (up c d, .inr (1, s, d)))
      (r₁ := 0) (r₂ := 0) (d₁ := 0) (d₂ := 0) (c' := (Dev.tc (up c d) : Thread nD τ)) (src := slotM s 0) (dst := slotM s d) (sS := .dma (dsem 0 s d)) (sem := .dma (dsem 1 s d)) (fs := gfin m c) (fd := fn)
      (by rw [duties_dma m c 0 s hd]; exact Finset.mem_singleton_self _) (by rw [duties_dma m (up c d) 1 s hd]; exact Finset.mem_singleton_self _)
      () () N (credit_eq s d) (amount_dma m c 0 s d 0) (amount_dma m (up c d) 1 s d 0) O rfl (W := W)
      (Entails.of_eq (payload_send m c s d 0).symm)
      ((Entails.of_eq (pointsTo_congr (landed m c s d fn))).trans (Entails.of_eq (payload_recv m (up c d) s d 0).symm))) $$ [HO Hsrc Hdst Ht Ht']
  · isplitr; · iexact HI
    isplitr; · iexact HI'
    isplitl [Hsrc]; · iexact Hsrc
    isplitl [Hdst]; · iexact Hdst
    isplitl [HO]; · iexact HO
    isplitl [Ht]; · iexact Ht
    isplitr; · iexact Hrd
    isplitl [Ht']; · iexact Ht'
    iexact Hrd'
  iintro ⟨Hc, HO⟩
  iapply Hk
  isplitl [HO]
  · iexists W; iexact HO
  iexact Hc

/-- The transfers of segment `s`. -/
theorem wp_sends {k : PG} {Q : PUnit → sProp 𝕄} (c : Dev nD) (s : Fin 2) (R : CellTallies nD τ sig Unit) (l : List (Fin 16)) (hl : ∀ d ∈ l, d ≠ 0) :
    iprop(records m K ∗ ow c (owe R (recvT c s) l)
        ∗ bigSepL l (fun d => sendPay m c s d) ∗ bigSepL l (fun d => iprop(∃ f, slotPts (up c d) s d fullShare f))
        ∗ bigSepL l (fun d => dutyTok ER (dCell c 0 s d) 0 0) ∗ bigSepL l (fun d => dutyTok ER (dCell (up c d) 1 s d) 0 0))
      ⊢ iprop(((ow c R ∗ bigSepL l (fun d => cred (tallyAt (dCell c 0 s d) () N))) -∗ WP c k Q) -∗ WP c (sends s k (l.map fun d => (d, up c d))) Q) := by
  induction l generalizing Q with
  | nil =>
    iintro ⟨-, HO, -, -, -, -⟩ Hk
    iapply Hk
    isplitl [HO]; · iexact HO
    rw [bigSepL_nil]; iempintro
  | cons d l ih =>
    rw [bigSepL_cons', bigSepL_cons', bigSepL_cons', bigSepL_cons', bigSepL_cons', List.map_cons]
    unfold sends
    iintro ⟨#Hrec, HO, ⟨Hs, Hss⟩, ⟨⟨%f, Hd⟩, Hds⟩, ⟨Ht, Hts⟩, ⟨Ht', Hts'⟩⟩ Hk
    iapply (wp_send_one m K c _ s d (hl d List.mem_cons_self) rfl _ _ (sendS_eq s d) (recvS_eq s d) (owe R (recvT c s) l) f) $$ [HO Hs Hd Ht Ht']
    · isplitr; · iexact Hrec
      isplitl [HO]; · iexact HO
      isplitl [Hs]; · iexact Hs
      isplitl [Hd]; · iexact Hd
      isplitl [Ht] <;> iassumption
    iintro ⟨HO, Hc⟩
    iapply (ih fun d' h => hl d' (List.mem_cons_of_mem _ h)) $$ [HO Hss Hds Hts Hts']
    · isplitr; · iexact Hrec
      isplitl [HO]; · iexact HO
      isplitl [Hss]; · iexact Hss
      isplitl [Hds]; · iexact Hds
      isplitl [Hts] <;> iassumption
    iintro ⟨HO, Hcs⟩
    iapply Hk
    isplitl [HO]; · iexact HO
    isplitl [Hc] <;> iassumption

theorem rest_dma (c : Dev nD) (b s : Fin 2) {d : Fin 16} (hd : d ≠ 0) :
    bigSep ((Rd (F := F) m).duties (dCell c b s d) 0 \ ∅) (fun e => (Rd (F := F) m).payload (dCell c b s d) 0 e) = (Rd m).payload (dCell c b s d) 0 0 := by
  rw [Finset.sdiff_empty, duties_dma m c b s hd, bigSep_singleton]

/-- One wait on a transfer's completion: what it hands back, and its semaphore at zero for good. -/
theorem wp_wait_one {Q : PUnit → sProp 𝕄} (c : Dev nD) (b s : Fin 2) (d a a' : Fin 16) (hd : d ≠ 0) (q : DmaSem sig) (hq : q = dsem b s d)
    {hsrc : (slotM s a).view.WordExact} {hdst : (slotM s a').view.WordExact} {kk : PUnit → PG} :
    iprop(records m K ∗ ow c 0 ∗ cred (tallyAt (dCell c b s d) () N) ∗ atPos ER (dCell c b s d) 0 ∅ 0)
      ⊢ iprop(((ow c 0 ∗ semVal (dCell c b s d) 0 ∗ (Rd m).payload (dCell c b s d) 0 0) -∗ WP c (kk ⟨⟩) Q)
          -∗ WP c (.op (.waitDma2 q (slotM s a) (slotM s a') hsrc hdst) kk) Q) := by
  subst hq
  unfold ow
  iintro ⟨#Hrec, ⟨%W, HO⟩, Hc, Hat⟩ Hk
  ihave Hr := (rec_dma m K c b s d) $$ Hrec
  icases Hr with ⟨#HI, #Hrd⟩
  iapply (Rounds.wp_wait_rest_token 𝒱₀ ER (Rd m) (c : Thread nD τ) none (κ := K (c, .inr (b, s, d)))
      (wpE_waitDma2_eq 𝒱₀ (c : Thread nD τ) none Set.univ) (Set.mem_univ _) () (O := 0) (W := W) (R := 0) (m := 0) (T := ∅)
      (by rw [Nat.zero_add, expect_dma m c b s hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd m) (Set.mem_univ (K (c, .inr (b, s, d)))) (fun h => h) (R := 0 + 1) (duties_later m (dCell c b s d))) $$ [Hat] with Hz
  · isplitr; · iexact HI
    iexact Hat
  iapply Hk
  isplitl [HO]; · iexists _; iexact HO
  isplitl [Hz]; · iexact Hz
  iapply (Entails.of_eq (rest_dma m c b s hd)) $$ Hpay

/-- The waits for the peers' candidates of segment `s`. -/
theorem wp_recvs {k : PG} {Q : PUnit → sProp 𝕄} (c : Dev nD) (s : Fin 2) (l : List (Fin 16)) (hl : ∀ d ∈ l, d ≠ 0) :
    iprop(records m K ∗ ow c 0
        ∗ bigSepL l (fun d => cred (tallyAt (dCell c 1 s d) () N)) ∗ bigSepL l (fun d => atPos ER (dCell c 1 s d) 0 ∅ 0))
      ⊢ iprop(((ow c 0 ∗ bigSepL l (fun d => semVal (dCell c 1 s d) 0) ∗ bigSepL l (fun d => recvPay m c s d)) -∗ WP c k Q)
          -∗ WP c (recvs s k l) Q) := by
  induction l generalizing Q with
  | nil =>
    iintro ⟨-, HO, -, -⟩ Hk
    iapply Hk
    isplitl [HO]; · iexact HO
    rw [bigSepL_nil, bigSepL_nil]; isplitl <;> iempintro
  | cons d l ih =>
    rw [bigSepL_cons', bigSepL_cons', bigSepL_cons', bigSepL_cons']
    iintro ⟨#Hrec, HO, ⟨Hc, Hcs⟩, ⟨Hat, Hats⟩⟩ Hk
    unfold recvs
    iapply (wp_wait_one m K c 1 s d 0 d (hl d List.mem_cons_self) _ (recvS_eq s d)) $$ [HO Hc Hat]
    · isplitr; · iexact Hrec
      isplitl [HO]; · iexact HO
      isplitl [Hc] <;> iassumption
    iintro ⟨HO, Hz, Hp⟩
    iapply (ih fun d' h => hl d' (List.mem_cons_of_mem _ h)) $$ [HO Hcs Hats]
    · isplitr; · iexact Hrec
      isplitl [HO]; · iexact HO
      isplitl [Hcs] <;> iassumption
    iintro ⟨HO, Hzs, Hps⟩
    iapply Hk
    isplitl [HO]; · iexact HO
    isplitl [Hz Hzs]; · isplitl [Hz] <;> iassumption
    isplitl [Hp]; · iapply (Entails.of_eq (payload_recv m c s d 0)) $$ Hp
    iexact Hps

/-- The waits for the device's own transfers of segment `s`. -/
theorem wp_sents {k : PG} {Q : PUnit → sProp 𝕄} (c : Dev nD) (s : Fin 2) (l : List (Fin 16)) (hl : ∀ d ∈ l, d ≠ 0) :
    iprop(records m K ∗ ow c 0
        ∗ bigSepL l (fun d => cred (tallyAt (dCell c 0 s d) () N)) ∗ bigSepL l (fun d => atPos ER (dCell c 0 s d) 0 ∅ 0))
      ⊢ iprop(((ow c 0 ∗ bigSepL l (fun d => semVal (dCell c 0 s d) 0) ∗ bigSepL l (fun d => sendPay m c s d)) -∗ WP c k Q)
          -∗ WP c (sents s k l) Q) := by
  induction l generalizing Q with
  | nil =>
    iintro ⟨-, HO, -, -⟩ Hk
    iapply Hk
    isplitl [HO]; · iexact HO
    rw [bigSepL_nil, bigSepL_nil]; isplitl <;> iempintro
  | cons d l ih =>
    rw [bigSepL_cons', bigSepL_cons', bigSepL_cons', bigSepL_cons']
    iintro ⟨#Hrec, HO, ⟨Hc, Hcs⟩, ⟨Hat, Hats⟩⟩ Hk
    unfold sents
    iapply (wp_wait_one m K c 0 s d d 0 (hl d List.mem_cons_self) _ (sendS_eq s d)) $$ [HO Hc Hat]
    · isplitr; · iexact Hrec
      isplitl [HO]; · iexact HO
      isplitl [Hc] <;> iassumption
    iintro ⟨HO, Hz, Hp⟩
    iapply (ih fun d' h => hl d' (List.mem_cons_of_mem _ h)) $$ [HO Hcs Hats]
    · isplitr; · iexact Hrec
      isplitl [HO]; · iexact HO
      isplitl [Hcs] <;> iassumption
    iintro ⟨HO, Hzs, Hps⟩
    iapply Hk
    isplitl [HO]; · iexact HO
    isplitl [Hz Hzs]; · isplitl [Hz] <;> iassumption
    isplitl [Hp]; · iapply (Entails.of_eq (payload_send m c s d 0)) $$ Hp
    iexact Hps

end Cert.ArgmaxProof
-- ==== Proof.Carry.lean ====
/-
The runs of the loads and stores: the block's rows, the candidate, the final reduction.
-/
module

public import proofs.«01_k».proof.Proof.Steps

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "PG" => Prog (TpuEff nD τ sig (Elt F) Λ₀ (Proc.tc : Proc τ)) PUnit

/-- A load of a whole buffer reads it as it is. -/
theorem read_all {s : Shape} (a : Memref sig .tc .vmem s .f32) {off : Fin s.rank → Nat} (h : off = fun _ => 0) (inb : ∀ x, off x + s.size x ≤ s.size x)
    (f : a.view.ty.Contents (Elt F)) : a.view.readAt (Elt F) (Rect.unit (s := s) off s.size inb).toLoadRect f = a.view.read (Elt F) f := by
  subst h
  funext x
  rw [View.readAt_apply]
  refine congrArg (a.view.read (Elt F) f) (funext fun y => Fin.ext ?_)
  show 0 + 1 * (x y).val = (x y).val
  omega

theorem zero2 : (![0, 0] : Fin 2 → Nat) = fun _ => 0 := funext fun a => by fin_cases a <;> rfl

/-- The load of the block's rows. -/
theorem wp_loadX {Q : PUnit → sProp 𝕄} (c : Dev nD) (arg1 : Memref sig .tc .vmem S512x1024 .f32) (X : Vec F S512x1024 .f32) (k : Vec F S512x1024 .f32 → PG) :
    (owns (c : Thread nD τ) arg1 fullShare X : sProp 𝕄) ⊢ iprop((owns (c : Thread nD τ) arg1 fullShare X -∗ WP c (k X) Q) -∗ WP c (loadX arg1 k) Q) := by
  unfold owns loadX
  iintro ⟨%f, %hf, Hx⟩ Hk
  iapply (wp_load 𝒱₀ (c : Thread nD τ) none Set.univ (m := arg1) (S := arg1.view.set) (View.setOn_subset_set arg1.view _)) $$ Hx
  iintro Hx
  rw [show arg1.view.readAt (Elt F) (Rect.unit (s := S512x1024) ![0, 0] S512x1024.size inb_S512x1024_S512x1024_0_0).toLoadRect f = X from
    (read_all arg1 zero2 _ f).trans hf]
  iapply Hk
  iexists f; isplitr; · (ipureintro; exact hf)
  iexact Hx

/-- A row of slot `(s, 0)` is inside the slot. -/
theorem row_subset {off : Fin 4 → Nat} (inb : ∀ a, off a + S1x1x1x1024.size a ≤ S2x16x2x1024.size a) {s : Fin 2} {d : Fin 16} {r : Fin 2}
    (h : off = ![s.val, d.val, r.val, 0]) : (gM.access (Rect.unit (s := S2x16x2x1024) off S1x1x1x1024.size inb) : View sig .tc _ _ _).set ⊆ slotSet s d :=
  fun i hi => mem_slotSet.mpr ⟨((mem_row inb h).mp hi).1, ((mem_row inb h).mp hi).2.1⟩

/-- The same of the elements a load of the row goes to. -/
theorem row_setOn_subset {off : Fin 4 → Nat} (inb : ∀ a, off a + S1x1x1x1024.size a ≤ S2x16x2x1024.size a) {s : Fin 2} {d : Fin 16} {r : Fin 2}
    (h : off = ![s.val, d.val, r.val, 0]) : gM.view.setOn (Rect.unit (s := S2x16x2x1024) off S1x1x1x1024.size inb).toLoadRect.set ⊆ slotSet s d := by
  have := row_subset inb h
  rwa [show (gM.access (Rect.unit (s := S2x16x2x1024) off S1x1x1x1024.size inb) : View sig .tc _ _ _).set = _ from View.set_slice gM.view _] at this

/-- The load of a row of a slot; -/
theorem wp_loadRow {Q : PUnit → sProp 𝕄} (c : Dev nD) {off : Fin 4 → Nat} (inb : ∀ a, off a + S1x1x1x1024.size a ≤ S2x16x2x1024.size a) {s : Fin 2} {d : Fin 16} {r : Fin 2}
    (h : off = ![s.val, d.val, r.val, 0]) (q : PosShare TreeShare) (f : GBuf F) (k : Vec F S1x1x1x1024 .f32 → PG) :
    (slotPts c s d q f : sProp 𝕄) ⊢ iprop((slotPts c s d q f -∗ WP c (k fun x => f (ValueIdx.ix4 s d r (x 3))) Q)
      -∗ WP c (.op (.load gM (Rect.unit (s := S2x16x2x1024) off S1x1x1x1024.size inb).toLoadRect (View.loadsAt_vmem h_S1x1x1x1024)) k) Q) := by
  iintro Hs Hk
  unfold slotPts
  iapply (wp_load 𝒱₀ (c : Thread nD τ) none Set.univ (m := gM) (S := slotSet s d) (q := q) (f := f) (row_setOn_subset inb h)) $$ Hs
  iintro Hs
  rw [read_row inb h f]
  iapply Hk
  iexact Hs

/-- the store of one. -/
theorem wp_storeRow {Q : PUnit → sProp 𝕄} (c : Dev nD) {off : Fin 4 → Nat} (inb : ∀ a, off a + S1x1x1x1024.size a ≤ S2x16x2x1024.size a) {s : Fin 2} {d : Fin 16} {r : Fin 2}
    (h : off = ![s.val, d.val, r.val, 0]) (f : GBuf F) (w : Vec F S1x1x1x1024 .f32)
    {hx : (gM.access (Rect.unit (s := S2x16x2x1024) off S1x1x1x1024.size inb) : View sig .tc _ _ _).Stores Finset.univ}
    {hm : (Finset.univ : Finset (S1x1x1x1024.Idx)) = Finset.univ ∨ ∀ a, (Rect.unit (s := S2x16x2x1024) off S1x1x1x1024.size inb).stride a = 1} (k : PUnit → PG) :
    (slotPts c s d fullShare f : sProp 𝕄) ⊢ iprop((slotPts c s d fullShare (rowUpd s d r f w) -∗ WP c (k ⟨⟩) Q)
      -∗ WP c (.op (.store gM (Rect.unit (s := S2x16x2x1024) off S1x1x1x1024.size inb) w Finset.univ hx hm) k) Q) := by
  iintro Hs Hk
  unfold slotPts
  iapply (wp_store 𝒱₀ (c : Thread nD τ) none Set.univ (m := gM) (r := Rect.unit (s := S2x16x2x1024) off S1x1x1x1024.size inb) (Mk := Finset.univ) (S := slotSet s d) (f := f) (row_subset inb h)) $$ Hs
  iintro Hs
  rw [write_row inb h f w]
  iapply Hk
  iexact Hs

variable (i : grid0.Coords)

/-- A fresh candidate stored in the device's own slot. -/
theorem wp_init {k : PG} {Q : PUnit → sProp 𝕄} (c : Dev nD) (s : Fin 2) (h2 : k0_cond2 i = 1#1) (o1 : k0_off1 i = ![s.val, (0 : Fin 16).val, (0 : Fin 2).val, 0])
    (o2 : k0_off2 i = ![s.val, (0 : Fin 16).val, (1 : Fin 2).val, 0]) (a b : FVec F S1024 .f32) (f : GBuf F) :
    (slotPts c s 0 fullShare f : sProp 𝕄)
      ⊢ iprop((slotPts c s 0 fullShare (rows (k0_pay9 a, k0_pay10 b)) -∗ WP c k Q) -∗ WP c (initP i h2 a b k) Q) := by
  unfold initP
  iintro Hs Hk
  iapply (wp_loadRow c (k0_off1_inb i h2) o1 fullShare f _) $$ Hs; iintro Hs
  iapply (wp_storeRow c (k0_off1_inb i h2) o1 f (k0_pay9 a) _) $$ Hs; iintro Hs
  iapply (wp_loadRow c (k0_off2_inb i h2) o2 fullShare _ _) $$ Hs; iintro Hs
  iapply (wp_storeRow c (k0_off2_inb i h2) o2 _ (k0_pay10 b) _) $$ Hs; iintro Hs
  iapply Hk
  iapply (Entails.of_eq (slotPts_congr c s 0 fullShare fun i hi => rowUpd_both s 0 f (k0_pay9 a) (k0_pay10 b) hi)) $$ Hs

/-- Row 1 after a store on row 0. -/
theorem row1_after (s : Fin 2) (d : Fin 16) (p : Vec F S1x1x1x1024 .f32 × Vec F S1x1x1x1024 .f32) (w : Vec F S1x1x1x1024 .f32) :
    (fun x : S1x1x1x1024.Idx => rowUpd s d 0 (rows p) w (ValueIdx.ix4 s d 1 (x 3))) = p.2 :=
  (funext fun x => rowUpd_off _ _ fun h => absurd (show (1 : Fin 2) = 0 from h.2.2) (by decide)).trans (rows_row1 p s d)

/-- The candidate carried on in the device's own slot. -/
theorem wp_comb {k : PG} {Q : PUnit → sProp 𝕄} (c : Dev nD) (s : Fin 2) (h3 : k0_cond3 i = 1#1) (o3 : k0_off3 i = ![s.val, (0 : Fin 16).val, (0 : Fin 2).val, 0])
    (o4 : k0_off4 i = ![s.val, (0 : Fin 16).val, (1 : Fin 2).val, 0]) (a b : FVec F S1024 .f32) (p : Vec F S1x1x1x1024 .f32 × Vec F S1x1x1x1024 .f32) :
    (slotPts c s 0 fullShare (rows p) : sProp 𝕄)
      ⊢ iprop((slotPts c s 0 fullShare (rows (k0_pay13 a p.1, k0_pay14 a b p.1 p.2)) -∗ WP c k Q) -∗ WP c (combP i h3 a b k) Q) := by
  unfold combP
  iintro Hs Hk
  iapply (wp_loadRow c (k0_off3_inb i h3) o3 fullShare _ _) $$ Hs; iintro Hs
  iapply (wp_loadRow c (k0_off3_inb i h3) o3 fullShare _ _) $$ Hs; iintro Hs
  rw [rows_row0]
  iapply (wp_storeRow c (k0_off3_inb i h3) o3 _ (k0_pay13 a p.1) _) $$ Hs; iintro Hs
  iapply (wp_loadRow c (k0_off4_inb i h3) o4 fullShare _ _) $$ Hs; iintro Hs
  iapply (wp_loadRow c (k0_off4_inb i h3) o4 fullShare _ _) $$ Hs; iintro Hs
  rw [row1_after]
  iapply (wp_storeRow c (k0_off4_inb i h3) o4 _ (k0_pay14 a b p.1 p.2) _) $$ Hs; iintro Hs
  iapply Hk
  iapply (Entails.of_eq (slotPts_congr c s 0 fullShare fun i hi => rowUpd_both s 0 (rows p) (k0_pay13 a p.1) (k0_pay14 a b p.1 p.2) hi)) $$ Hs

/-- What a buffer of two rows reads after a store on one of them. -/
theorem read_store_row (a : Memref sig .tc .vmem S2x1024 .f32) (r : Fin 2) {off : Fin 2 → Nat} (inb : ∀ x, off x + S1x1024.size x ≤ S2x1024.size x)
    (h : off = ![r.val, 0]) (f : a.view.ty.Contents (Elt F)) (w : Vec F S1x1024 .f32) (x : S2x1024.Idx) :
    a.view.read (Elt F) ((a.access (Rect.unit (s := S2x1024) off S1x1024.size inb)).write (Elt F) f w Finset.univ) x
      = if (x 0).val = r.val then w (ValueIdx.ix2 0 (x 1)) else a.view.read (Elt F) f x := by
  subst h
  rw [View.read_apply]
  by_cases hx : (x 0).val = r.val
  · have he : a.view.emb x = (a.access (Rect.unit (s := S2x1024) ![r.val, 0] S1x1024.size inb)).emb (ValueIdx.ix2 0 (x 1) : S1x1024.Idx) := by
      show a.view.emb x = a.view.emb ((Rect.unit (s := S2x1024) ![r.val, 0] S1x1024.size inb).emb (ValueIdx.ix2 0 (x 1) : S1x1024.Idx))
      refine congrArg _ (funext fun y => Fin.ext ?_)
      show (x y).val = (![r.val, 0] : Fin 2 → Nat) y + 1 * ((ValueIdx.ix2 0 (x 1) : S1x1024.Idx) y).val
      match y with
      | ⟨0, _⟩ => exact hx
      | ⟨1, _⟩ => exact ((Nat.zero_add _).trans (Nat.one_mul _)).symm
    rw [if_pos hx, write_of_emb (a.access (Rect.unit (s := S2x1024) ![r.val, 0] S1x1024.size inb)) f w he]
    exact cast_cast _ _ _
  · rw [if_neg hx, View.read_apply, write_off_set (a.access (Rect.unit (s := S2x1024) ![r.val, 0] S1x1024.size inb)) f w]
    intro hm
    obtain ⟨y, -, hy⟩ := Finset.mem_map.mp hm
    have hy' : (Rect.unit (s := S2x1024) ![r.val, 0] S1x1024.size inb).emb y = x := a.view.emb.injective hy
    refine hx ?_
    rw [← hy']
    show r.val + 1 * (y 0).val = r.val
    have : (y 0).val < 1 := (y 0).isLt
    omega

variable (m : (ℓ : Loc nD τ sig) → Buf (Elt F) ℓ)

/-- The final reduction: any share of every slot, the result stored. -/
theorem wp_reduce {k : PG} {Q : PUnit → sProp 𝕄} (c : Dev nD) (arg2 : Memref sig .tc .vmem S2x1024 .f32) (q : PosShare TreeShare) (X : Vec F S2x1024 .f32) :
    iprop((gM.view.loc (c : Thread nD τ) ↦[Finset.univ]{q} gfin m c) ∗ owns (c : Thread nD τ) arg2 fullShare X : sProp 𝕄)
      ⊢ iprop((((gM.view.loc (c : Thread nD τ) ↦[Finset.univ]{q} gfin m c) ∗ owns (c : Thread nD τ) arg2 fullShare (outAt m c)) -∗ WP c k Q)
        -∗ WP c (reduceP arg2 k) Q) := by
  unfold owns reduceP
  iintro ⟨Hg, %f, %hf, Hx⟩ Hk
  iapply (wp_load 𝒱₀ (c : Thread nD τ) none Set.univ (m := gM) (S := Finset.univ) (Finset.subset_univ _)) $$ Hg; iintro Hg
  iapply (wp_load 𝒱₀ (c : Thread nD τ) none Set.univ (m := gM) (S := Finset.univ) (Finset.subset_univ _)) $$ Hg; iintro Hg
  iapply (wp_load 𝒱₀ (c : Thread nD τ) none Set.univ (m := arg2) (S := arg2.view.set) (View.setOn_subset_set arg2.view _)) $$ Hx; iintro Hx
  iapply (wp_store 𝒱₀ (c : Thread nD τ) none Set.univ (m := arg2) (r := Rect.unit (s := S2x1024) ![0, 0] S1x1024.size inb_S2x1024_S1x1024_0_0) (Mk := Finset.univ) (S := arg2.view.set) (View.set_slice_subset arg2.view _)) $$ Hx; iintro Hx
  iapply (wp_load 𝒱₀ (c : Thread nD τ) none Set.univ (m := arg2) (S := arg2.view.set) (View.setOn_subset_set arg2.view _)) $$ Hx; iintro Hx
  iapply (wp_store 𝒱₀ (c : Thread nD τ) none Set.univ (m := arg2) (r := Rect.unit (s := S2x1024) ![1, 0] S1x1024.size inb_S2x1024_S1x1024_1_0) (Mk := Finset.univ) (S := arg2.view.set) (View.set_slice_subset arg2.view _)) $$ Hx; iintro Hx
  iapply Hk
  isplitl [Hg]; · iexact Hg
  iexists _
  isplitr
  rotate_left
  · iexact Hx
  ipureintro
  funext x
  refine (read_store_row arg2 1 _ rfl _ _ x).trans ?_
  rw [read_store_row arg2 0 (off := ![0, 0]) _ rfl]
  unfold outAt
  have hx : (x 0).val < 2 := (x 0).isLt
  by_cases h0 : (x 0).val = 0
  · rw [if_neg (by rw [h0]; decide)]; exact (if_pos h0).trans (if_pos h0).symm
  · rw [if_pos (by show (x 0).val = 1; omega), if_neg h0]; rfl

end Cert.ArgmaxProof
-- ==== Proof.Blocks.lean ====
/-
The candidate buffer cut into its slots, and the kernel's body run at each kind of block.
-/
module

public import proofs.«01_k».proof.Proof.Carry
public import Idealize.ShloMosaic.Lib.Pipeline.TalkSched

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "PG" => Prog (TpuEff nD τ sig (Elt F) Λ₀ (Proc.tc : Proc τ)) PUnit

/-! ## The slots of the buffer -/

omit [FloatOps F] in
/-- A list of the fifteen distances, as a family over them. -/
theorem ds_eq (Φ : Fin 16 → sProp 𝕄) : bigSepL ds Φ = bigSep (Finset.univ.erase 0) Φ := (bigSep_eq_bigSepL_of_eq ds (by decide) (by decide) Φ).symm
omit [FloatOps F] in
theorem ds_sep (Φ Ψ : Fin 16 → sProp 𝕄) : bigSepL ds (fun d => iprop(Φ d ∗ Ψ d)) = iprop(bigSepL ds Φ ∗ bigSepL ds Ψ) := by
  rw [ds_eq, ds_eq, ds_eq, bigSep_sep']
omit [FloatOps F] in
theorem ds_neg (Φ : Fin 16 → sProp 𝕄) : bigSepL ds (fun d => Φ (neg d)) = bigSepL ds Φ := by
  rw [← bigSepL_map neg ds Φ]
  exact TalkSites.bigSepL_perm (by decide) (by decide) Φ
omit [FloatOps F] in
theorem all_ds (Φ : Fin 16 → sProp 𝕄) : bigSep Finset.univ Φ = iprop(Φ 0 ∗ bigSepL ds Φ) :=
  (bigSep_univ_eq_bigSepL (0 :: ds) (by decide) (by decide) Φ).trans (bigSepL_cons' ..)

/-- A family over the segments and the distances, the distance 0 apart. -/
def fan (Φ : Fin 2 → Fin 16 → sProp 𝕄) : sProp 𝕄 := iprop((Φ 0 0 ∗ bigSepL ds (Φ 0)) ∗ (Φ 1 0 ∗ bigSepL ds (Φ 1)))

omit [FloatOps F] in
theorem bigSep_fan (Φ : Fin 2 → Fin 16 → sProp 𝕄) : bigSep Finset.univ (fun p : Fin 2 × Fin 16 => Φ p.1 p.2) = fan Φ := by
  unfold fan
  rw [bigSep_univ_prod, bigSep_univ_two, all_ds, all_ds]

theorem slots_cover : (Finset.univ : Finset S2x16x2x1024.Idx) = (Finset.univ : Finset (Fin 2 × Fin 16)).biUnion fun p => slotSet p.1 p.2 := by
  refine (Finset.eq_univ_of_forall fun i => ?_).symm
  exact Finset.mem_biUnion.mpr ⟨(seg i, dis i), Finset.mem_univ _, mem_slotSet.mpr ⟨rfl, rfl⟩⟩

theorem slots_disjoint {p p' : Fin 2 × Fin 16} (h : p ≠ p') : Disjoint (slotSet p.1 p.2) (slotSet p'.1 p'.2) :=
  Finset.disjoint_left.mpr fun i hi hi' => h (Prod.ext ((mem_slotSet.mp hi).1.symm.trans (mem_slotSet.mp hi').1) ((mem_slotSet.mp hi).2.symm.trans (mem_slotSet.mp hi').2))

omit [FloatOps F] in
/-- The whole buffer is its slots. -/
theorem buf_slots (c : Dev nD) (q : PosShare TreeShare) (f : GBuf F) :
    (gM.view.loc (c : Thread nD τ) ↦[Finset.univ]{q} f : sProp 𝕄) = fan fun s d => slotPts c s d q f := by
  rw [← bigSep_fan]
  refine Eq.trans ?_ (pointsTo_biUnion (ℓ := gM.view.loc (c : Thread nD τ)) (Finset.univ : Finset (Fin 2 × Fin 16)) (fun p => slotSet p.1 p.2) fun p _ p' _ h => slots_disjoint h)
  exact congrArg (fun S => (gM.view.loc (c : Thread nD τ) ↦[S]{q} f : sProp 𝕄)) slots_cover

/-- What stays of a slot while shares of it are lent to fifteen transfers; what is lent. -/
abbrev rem (c : Dev nD) (s : Fin 2) (d : Fin 16) (f : GBuf F) : sProp 𝕄 := slotPts c s d (Transfers.shareDrop fullShare 16) f
abbrev tok (c : Dev nD) (s : Fin 2) (d : Fin 16) (f : GBuf F) (e : Fin 16) : sProp 𝕄 := slotPts c s d (Transfers.shareTokN fullShare e.val) f

omit [FloatOps F] in
theorem slot_toks (c : Dev nD) (s : Fin 2) (d : Fin 16) (f : GBuf F) :
    (slotPts c s d fullShare f : sProp 𝕄) ⊣⊢ iprop(rem c s d f ∗ tok c s d f 0 ∗ bigSepL ds (tok c s d f)) := by
  rw [← all_ds]
  exact Transfers.pointsTo_toks fullShare 16

/-! ## The body at each kind of block -/

variable (m : (ℓ : Loc nD τ sig) → Buf (Elt F) ℓ) (K : Dev nD × KI → ℕ)
variable (i : grid0.Coords) (arg1 : Memref sig .tc .vmem S512x1024 .f32) (harg1 : arg1.IsWhole) (arg2 : Memref sig .tc .vmem S2x1024 .f32) (harg2 : arg2.IsWhole)

local notation "BODY" => cc0_body (F := F) i arg1 harg1 arg2 harg2 gM (Memref.isWhole_whole _) cc0_scratch1 cc0_scratch2

/-- A run that is over. -/
theorem wp_done {Q : PUnit → sProp 𝕄} (c : Dev nD) : Q ⟨⟩ ⊢ WP c (.ret ⟨⟩) Q := by
  rw [show WP c (.ret ⟨⟩) Q = _ from wp_ret ..]
  iintro H
  imodintro
  iexact H

/-- The tokens of the barrier signals; of the transfers of segment `s`. -/
def sigTok (c : Dev nD) : sProp 𝕄 := bigSepL ds fun d => dutyTok ER (barCell (up c d)) 0 (neg d)
def xferTok (c : Dev nD) (s : Fin 2) : sProp 𝕄 :=
  iprop(bigSepL ds (fun d => dutyTok ER (dCell c 0 s d) 0 0) ∗ bigSepL ds (fun d => dutyTok ER (dCell (up c d) 1 s d) 0 0))

/-- The slots the signals hand over, each to the peer that writes it. -/
theorem pays_out (c : Dev nD) (f : GBuf F) :
    iprop(bigSepL ds (fun d => slotPts c 0 d fullShare f) ∗ bigSepL ds (fun d => slotPts c 1 d fullShare f))
      ⊢ (bigSepL ds fun d => barPay (up c d) (neg d) : sProp 𝕄) := by
  rw [← ds_sep, ← ds_neg]
  refine bigSepL_mono fun d _ => ?_
  unfold barPay
  rw [up_neg]
  iintro ⟨H0, H1⟩
  isplitl [H0]; · (iexists f; iexact H0)
  iexists f; iexact H1

/-- The first block: the signals, a fresh candidate of segment 0. -/
theorem run_first {Q : PUnit → sProp 𝕄} (c : Dev nD) (h1 : k0_cond1 i = 1#1) (h2 : k0_cond2 i = 1#1) (h3 : ¬ k0_cond3 i = 1#1) (h4 : ¬ k0_cond4 i = 1#1) (h8 : ¬ k0_cond8 i = 1#1)
    (o1 : k0_off1 i = ![0, 0, 0, 0]) (o2 : k0_off2 i = ![0, 0, 1, 0]) (X : Vec F S512x1024 .f32) (f : GBuf F) :
    iprop(records m K ∗ ow c (O₀ c) ∗ sigTok c ∗ (gM.view.loc (c : Thread nD τ) ↦[Finset.univ]{fullShare} f) ∗ owns (c : Thread nD τ) arg1 fullShare X)
      ⊢ iprop(((ow c (O₁ c) ∗ slotPts c 0 0 fullShare (rows (k0_pay9 (k0_pay7 X), k0_pay10 (k0_pay8 i c X))) ∗ (∃ f, slotPts c 1 0 fullShare f)
          ∗ owns (c : Thread nD τ) arg1 fullShare X) -∗ Q ⟨⟩) -∗ WP c BODY Q) := by
  rw [body_first i arg1 harg1 arg2 harg2 h1 h2 h3 h4 h8, buf_slots]
  unfold sigTok fan
  simp only [wp_deviceId]
  iintro ⟨#Hrec, HO, Ht, ⟨⟨H00, H0⟩, ⟨H10, H1⟩⟩, Hx⟩ Hk
  ihave Hp := (pays_out c f) $$ [H0 H1]
  · isplitl [H0] <;> iassumption
  iapply (wp_signals m K c (O₁ c) ds (fun d hd => (mem_ds d).mp hd)) $$ [HO Ht Hp]
  · isplitr; · iexact Hrec
    isplitl [HO]; · iexact HO
    isplitl [Ht] <;> iassumption
  iintro HO
  iapply (wp_loadX c arg1 X _) $$ Hx; iintro Hx
  iapply (wp_init i c 0 h2 o1 o2 (k0_pay7 X) (k0_pay8 i c X) f) $$ H00; iintro H00
  iapply (wp_done c)
  iapply Hk
  isplitl [HO]; · iexact HO
  isplitl [H00]; · iexact H00
  isplitl [H10]; · (iexists f; iexact H10)
  iexact Hx

/-- The block that starts segment 1. -/
theorem run_start {Q : PUnit → sProp 𝕄} (c : Dev nD) (s : Fin 2) (h1 : ¬ k0_cond1 i = 1#1) (h2 : k0_cond2 i = 1#1) (h3 : ¬ k0_cond3 i = 1#1) (h4 : ¬ k0_cond4 i = 1#1)
    (h8 : ¬ k0_cond8 i = 1#1) (o1 : k0_off1 i = ![s.val, 0, 0, 0]) (o2 : k0_off2 i = ![s.val, 0, 1, 0]) (X : Vec F S512x1024 .f32) :
    iprop((∃ f, slotPts c s 0 fullShare f) ∗ owns (c : Thread nD τ) arg1 fullShare X)
      ⊢ iprop(((slotPts c s 0 fullShare (rows (k0_pay9 (k0_pay7 X), k0_pay10 (k0_pay8 i c X))) ∗ owns (c : Thread nD τ) arg1 fullShare X) -∗ Q ⟨⟩) -∗ WP c BODY Q) := by
  rw [body_start i arg1 harg1 arg2 harg2 h1 h2 h3 h4 h8]
  simp only [wp_deviceId]
  iintro ⟨⟨%f, Hs⟩, Hx⟩ Hk
  iapply (wp_loadX c arg1 X _) $$ Hx; iintro Hx
  iapply (wp_init i c s h2 o1 o2 (k0_pay7 X) (k0_pay8 i c X) f) $$ Hs; iintro Hs
  iapply (wp_done c)
  iapply Hk
  isplitl [Hs] <;> iassumption

/-- A block that carries segment `s`'s candidate on. -/
theorem run_mid {Q : PUnit → sProp 𝕄} (c : Dev nD) (s : Fin 2) (h1 : ¬ k0_cond1 i = 1#1) (h2 : ¬ k0_cond2 i = 1#1) (h3 : k0_cond3 i = 1#1) (h4 : ¬ k0_cond4 i = 1#1)
    (h8 : ¬ k0_cond8 i = 1#1) (o3 : k0_off3 i = ![s.val, 0, 0, 0]) (o4 : k0_off4 i = ![s.val, 0, 1, 0]) (X : Vec F S512x1024 .f32)
    (p : Vec F S1x1x1x1024 .f32 × Vec F S1x1x1x1024 .f32) :
    iprop(slotPts c s 0 fullShare (rows p) ∗ owns (c : Thread nD τ) arg1 fullShare X)
      ⊢ iprop(((slotPts c s 0 fullShare (rows (k0_pay13 (k0_pay7 X) p.1, k0_pay14 (k0_pay7 X) (k0_pay8 i c X) p.1 p.2)) ∗ owns (c : Thread nD τ) arg1 fullShare X) -∗ Q ⟨⟩)
          -∗ WP c BODY Q) := by
  rw [body_mid i arg1 harg1 arg2 harg2 h1 h2 h3 h4 h8]
  simp only [wp_deviceId]
  iintro ⟨Hs, Hx⟩ Hk
  iapply (wp_loadX c arg1 X _) $$ Hx; iintro Hx
  iapply (wp_comb i c s h3 o3 o4 (k0_pay7 X) (k0_pay8 i c X) p) $$ Hs; iintro Hs
  iapply (wp_done c)
  iapply Hk
  isplitl [Hs] <;> iassumption

/-- The barrier: every peer has signalled, and handed over the slots this device writes. -/
theorem wp_barrier {kk : PUnit → PG} {Q : PUnit → sProp 𝕄} (c : Dev nD) :
    iprop(records m K ∗ levAts L lv ∗ ow c (O₁ c) ∗ cred (tallyAt (barCell c) () 15) ∗ atPos ER (barCell c) 0 ∅ 0)
      ⊢ iprop(((ow c (O₁ c) ∗ semVal (barCell c) 0 ∗ bigSepL ds (fun d => barPay c d)) -∗ WP c (kk ⟨⟩) Q)
          -∗ WP c (.op (.semWait barS (15#32 : BitVec 32).toInt) kk) Q) := by
  unfold ow
  iintro ⟨#Hrec, #Hlev, ⟨%W, HO⟩, Hc, Hat⟩ Hk
  ihave Hr := (rec_bar m K c) $$ Hrec
  icases Hr with ⟨#HI, #Hrd⟩
  iapply (Rounds.wp_wait_rest_token 𝒱₀ ER (Rd m) (c : Thread nD τ) none (κ := K (c, .inl ()))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (Rd m) (Set.mem_univ (K (c, .inl ()))) (fun h => h) (R := 0 + 1) (duties_later m (barCell c))) $$ [Hat] with Hz
  · isplitr; · iexact HI
    iexact Hat
  iapply Hk
  isplitl [HO]; · (iexists _; iexact HO)
  isplitl [Hz]; · iexact Hz
  iexact Hp

/-- The block that ends segment 0: the barrier, then segment 0's transfers. -/
theorem run_send {Q : PUnit → sProp 𝕄} (c : Dev nD) (h1 : ¬ k0_cond1 i = 1#1) (h2 : ¬ k0_cond2 i = 1#1) (h3 : k0_cond3 i = 1#1) (h4 : k0_cond4 i = 1#1)
    (h5 : Scalar.cmpi .ne (Scalar.extui (Scalar.cmpi .eq (BitVec.ofNat 32 (i 0).val) 3#32) : BitVec 32) 0#32 = 1#1) (h6 : k0_cond6 i = 1#1)
    (h7 : ¬ k0_cond7 i = 1#1) (h8 : ¬ k0_cond8 i = 1#1) (o3 : k0_off3 i = ![0, 0, 0, 0]) (o4 : k0_off4 i = ![0, 0, 1, 0]) (X : Vec F S512x1024 .f32)
    (p : Vec F S1x1x1x1024 .f32 × Vec F S1x1x1x1024 .f32) (hp : (k0_pay13 (k0_pay7 X) p.1, k0_pay14 (k0_pay7 X) (k0_pay8 i c X) p.1 p.2) = cand m c 3) :
    iprop(records m K ∗ levAts L lv ∗ ow c (O₁ c) ∗ cred (tallyAt (barCell c) () 15) ∗ atPos ER (barCell c) 0 ∅ 0 ∗ xferTok c 0
        ∗ slotPts c 0 0 fullShare (rows p) ∗ owns (c : Thread nD τ) arg1 fullShare X)
      ⊢ iprop(((ow c (O₂ c) ∗ semVal (barCell c) 0 ∗ bigSepL ds (fun d => cred (tallyAt (dCell c 0 0 d) () N)) ∗ (rem c 0 0 (gfin m c) ∗ tok c 0 0 (gfin m c) 0)
          ∗ bigSepL ds (fun d => iprop(∃ f, slotPts (up c d) 1 d fullShare f)) ∗ owns (c : Thread nD τ) arg1 fullShare X) -∗ Q ⟨⟩) -∗ WP c BODY Q) := by
  rw [body_send i arg1 harg1 arg2 harg2 h1 h2 h3 h4 h5 h6 h7 h8]
  simp only [wp_deviceId]
  unfold xferTok
  iintro ⟨#Hrec, #Hlev, HO, Hc, Hat, ⟨Ht0, Ht1⟩, Hs, Hx⟩ Hk
  iapply (wp_loadX c arg1 X _) $$ Hx; iintro Hx
  iapply (wp_comb i c 0 h3 o3 o4 (k0_pay7 X) (k0_pay8 i c X) p) $$ Hs; iintro Hs
  ihave Hs := (Entails.of_eq (show slotPts c 0 0 fullShare (rows (k0_pay13 (k0_pay7 X) p.1, k0_pay14 (k0_pay7 X) (k0_pay8 i c X) p.1 p.2)) = slotPts c 0 0 fullShare (gfin m c) from by
    rw [hp]; exact slotPts_congr c 0 0 fullShare fun i hi => (gfin_own m c 0 hi).symm)) $$ Hs
  ihave Hs := (slot_toks c 0 0 (gfin m c)).1 $$ Hs
  icases Hs with ⟨Hd, Hz, Htk⟩
  iapply (wp_barrier m K c) $$ [HO Hc Hat]
  · isplitr; · iexact Hrec
    isplitr; · iexact Hlev
    isplitl [HO]; · iexact HO
    isplitl [Hc] <;> iassumption
  iintro ⟨HO, Hbz, Hp⟩
  ihave Hp := (Entails.of_eq (show (bigSepL ds fun d => barPay c d) = _ from ds_sep (fun d => iprop(∃ f, slotPts (up c d) 0 d fullShare f)) (fun d => iprop(∃ f, slotPts (up c d) 1 d fullShare f)))) $$ Hp
  icases Hp with ⟨Hp0, Hp1⟩
  iapply (wp_sends m K c 0 (O₂ c) ds (fun d hd => (mem_ds d).mp hd)) $$ [HO Htk Hp0 Ht0 Ht1]
  · isplitr; · iexact Hrec
    isplitl [HO]; · iexact HO
    isplitl [Htk]; · iexact Htk
    isplitl [Hp0]; · iexact Hp0
    isplitl [Ht0] <;> iassumption
  iintro ⟨HO, Hcr⟩
  iapply (wp_done c)
  iapply Hk
  isplitl [HO]; · iexact HO
  isplitl [Hbz]; · iexact Hbz
  isplitl [Hcr]; · iexact Hcr
  isplitl [Hd Hz]
  · isplitl [Hd] <;> iassumption
  isplitl [Hp1] <;> iassumption

end Cert.ArgmaxProof
-- ==== Proof.Last.lean ====
/-
The last block: segment 1's transfers, every candidate received, the reduction, the device's own transfers complete.
-/
module

public import proofs.«01_k».proof.Proof.Blocks

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "PG" => Prog (TpuEff nD τ sig (Elt F) Λ₀ (Proc.tc : Proc τ)) PUnit

variable (m : (ℓ : Loc nD τ sig) → Buf (Elt F) ℓ) (K : Dev nD × KI → ℕ)

omit [FloatOps F] in
/-- The semaphores of the transfers, in two fans. -/
theorem bigSep_sems (Φ : Fin 2 → Fin 2 → Fin 16 → sProp 𝕄) :
    bigSep Finset.univ (fun j : Fin 2 × Fin 2 × Fin 16 => Φ j.1 j.2.1 j.2.2) = iprop(fan (Φ 0) ∗ fan (Φ 1)) := by
  rw [bigSep_univ_prod, bigSep_univ_two]
  exact congrArg₂ (fun a b => iprop(a ∗ b)) (bigSep_fan (Φ 0)) (bigSep_fan (Φ 1))

/-- The position at a semaphore's one round; its counter at zero for good. -/
abbrev pos (c : Dev nD) (b s : Fin 2) (d : Fin 16) : sProp 𝕄 := atPos ER (dCell c b s d) 0 ∅ 0
abbrev zed (c : Dev nD) (b s : Fin 2) (d : Fin 16) : sProp 𝕄 := semVal (dCell c b s d) 0

/-- The semaphores of the distance 0 are never used. -/
theorem close_zero (c : Dev nD) (b s : Fin 2) : iprop(records m K ∗ pos c b s 0) ⊢ |={Set.univ}=> (zed c b s 0 : sProp 𝕄) := by
  iintro ⟨#Hrec, Hat⟩
  ihave Hr := (rec_dma m K c b s 0) $$ Hrec
  icases Hr with ⟨#HI, #Hrd⟩
  imod (Rounds.cell_close ER (Rd m) (Set.mem_univ (K (c, .inr (b, s, 0)))) (fun h => h) (R := 0) (duties_none m c b s)) $$ [Hat] with Hz
  · isplitr; · iexact HI
    iexact Hat
  imodintro
  iexact Hz

theorem close_zeros (c : Dev nD) : iprop(records m K ∗ (pos c 0 0 0 ∗ pos c 0 1 0) ∗ pos c 1 0 0 ∗ pos c 1 1 0)
    ⊢ |={Set.univ}=> (iprop((zed c 0 0 0 ∗ zed c 0 1 0) ∗ zed c 1 0 0 ∗ zed c 1 1 0) : sProp 𝕄) := by
  iintro ⟨#Hrec, ⟨H0, H1⟩, H2, H3⟩
  imod (close_zero m K c 0 0) $$ [H0] with H0
  · isplitr; · iexact Hrec
    iexact H0
  imod (close_zero m K c 0 1) $$ [H1] with H1
  · isplitr; · iexact Hrec
    iexact H1
  imod (close_zero m K c 1 0) $$ [H2] with H2
  · isplitr; · iexact Hrec
    iexact H2
  imod (close_zero m K c 1 1) $$ [H3] with H3
  · isplitr; · iexact Hrec
    iexact H3
  imodintro
  isplitl [H0 H1]
  · isplitl [H0] <;> iassumption
  isplitl [H2] <;> iassumption

/-- The shares of a slot that could be lent. -/
abbrev lent (c : Dev nD) (s : Fin 2) (d : Fin 16) : sProp 𝕄 := iprop(tok c s d (gfin m c) 0 ∗ bigSepL ds (tok c s d (gfin m c)))

/-- The slots received, each cut into what a load reads with and the rest; put together again. -/
theorem recv_split (c : Dev nD) (s : Fin 2) :
    (bigSepL ds (fun d => recvPay m c s d) : sProp 𝕄) ⊢ iprop(bigSepL ds (fun d => rem c s d (gfin m c)) ∗ bigSepL ds (fun d => lent m c s d)) := by
  rw [← ds_sep]
  exact bigSepL_mono fun d _ => (slot_toks c s d (gfin m c)).1
theorem recv_join (c : Dev nD) (s : Fin 2) :
    iprop(bigSepL ds (fun d => rem c s d (gfin m c)) ∗ bigSepL ds (fun d => lent m c s d)) ⊢ (bigSepL ds (fun d => slotPts c s d fullShare (gfin m c)) : sProp 𝕄) := by
  rw [← ds_sep]
  exact bigSepL_mono fun d _ => (slot_toks c s d (gfin m c)).2

/-- The own slot back from its transfers. -/
theorem own_join (c : Dev nD) (s : Fin 2) :
    iprop(rem c s 0 (gfin m c) ∗ tok c s 0 (gfin m c) 0 ∗ bigSepL ds (fun d => sendPay m c s d)) ⊢ (slotPts c s 0 fullShare (gfin m c) : sProp 𝕄) :=
  (slot_toks c s 0 (gfin m c)).2

/-- The wait for every candidate, the reduction, the wait for the own transfers. -/
theorem wp_finish {Q : PUnit → sProp 𝕄} (c : Dev nD) (arg2 : Memref sig .tc .vmem S2x1024 .f32) (Y : Vec F S2x1024 .f32) :
    iprop(records m K ∗ ow c 0
        ∗ bigSepL ds (fun d => cred (tallyAt (dCell c 0 0 d) () N)) ∗ bigSepL ds (fun d => cred (tallyAt (dCell c 0 1 d) () N))
        ∗ bigSepL ds (fun d => cred (tallyAt (dCell c 1 0 d) () N)) ∗ bigSepL ds (fun d => cred (tallyAt (dCell c 1 1 d) () N))
        ∗ fan (pos c 0) ∗ fan (pos c 1)
        ∗ (rem c 0 0 (gfin m c) ∗ tok c 0 0 (gfin m c) 0) ∗ (rem c 1 0 (gfin m c) ∗ tok c 1 0 (gfin m c) 0) ∗ owns (c : Thread nD τ) arg2 fullShare Y)
      ⊢ iprop(((ow c 0 ∗ (fan (zed c 0) ∗ fan (zed c 1)) ∗ (gM.view.loc (c : Thread nD τ) ↦[Finset.univ]{fullShare} gfin m c)
          ∗ owns (c : Thread nD τ) arg2 fullShare (outAt m c)) -∗ Q ⟨⟩)
        -∗ WP c (recvs 0 (recvs 1 (reduceP arg2 (sents 0 (sents 1 (.ret ⟨⟩) ds) ds)) ds) ds) Q) := by
  unfold fan
  iintro ⟨#Hrec, HO, Hc00, Hc01, Hc10, Hc11, ⟨⟨P000, P00⟩, ⟨P010, P01⟩⟩, ⟨⟨P100, P10⟩, ⟨P110, P11⟩⟩, ⟨Hr0, Ht0⟩, ⟨Hr1, Ht1⟩, Hy⟩ Hk
  iapply (wp_recvs m K c 0 ds (fun d hd => (mem_ds d).mp hd)) $$ [HO Hc10 P10]
  · isplitr; · iexact Hrec
    isplitl [HO]; · iexact HO
    isplitl [Hc10] <;> iassumption
  iintro ⟨HO, Z10, Hs0⟩
  iapply (wp_recvs m K c 1 ds (fun d hd => (mem_ds d).mp hd)) $$ [HO Hc11 P11]
  · isplitr; · iexact Hrec
    isplitl [HO]; · iexact HO
    isplitl [Hc11] <;> iassumption
  iintro ⟨HO, Z11, Hs1⟩
  ihave Hs0 := (recv_split m c 0) $$ Hs0
  ihave Hs1 := (recv_split m c 1) $$ Hs1
  icases Hs0 with ⟨Hd0, Hl0⟩
  icases Hs1 with ⟨Hd1, Hl1⟩
  ihave Hb := (Entails.of_eq (show iprop((rem c 0 0 (gfin m c) ∗ bigSepL ds fun d => rem c 0 d (gfin m c)) ∗ (rem c 1 0 (gfin m c) ∗ bigSepL ds fun d => rem c 1 d (gfin m c)))
    = (gM.view.loc (c : Thread nD τ) ↦[Finset.univ]{Transfers.shareDrop fullShare 16} gfin m c : sProp 𝕄) from (buf_slots c _ _).symm)) $$ [Hr0 Hr1 Hd0 Hd1]
  · isplitl [Hr0 Hd0]
    · isplitl [Hr0] <;> iassumption
    isplitl [Hr1] <;> iassumption
  iapply (wp_reduce m c arg2 (Transfers.shareDrop fullShare 16) Y) $$ [Hb Hy]
  · isplitl [Hb] <;> iassumption
  iintro ⟨Hb, Hy⟩
  ihave Hb := (Entails.of_eq (show (gM.view.loc (c : Thread nD τ) ↦[Finset.univ]{Transfers.shareDrop fullShare 16} gfin m c : sProp 𝕄)
    = iprop((rem c 0 0 (gfin m c) ∗ bigSepL ds fun d => rem c 0 d (gfin m c)) ∗ (rem c 1 0 (gfin m c) ∗ bigSepL ds fun d => rem c 1 d (gfin m c))) from buf_slots c _ _)) $$ Hb
  icases Hb with ⟨⟨Hr0, Hd0⟩, ⟨Hr1, Hd1⟩⟩
  iapply (wp_sents m K c 0 ds (fun d hd => (mem_ds d).mp hd)) $$ [HO Hc00 P00]
  · isplitr; · iexact Hrec
    isplitl [HO]; · iexact HO
    isplitl [Hc00] <;> iassumption
  iintro ⟨HO, Z00, Ho0⟩
  iapply (wp_sents m K c 1 ds (fun d hd => (mem_ds d).mp hd)) $$ [HO Hc01 P01]
  · isplitr; · iexact Hrec
    isplitl [HO]; · iexact HO
    isplitl [Hc01] <;> iassumption
  iintro ⟨HO, Z01, Ho1⟩
  imod (close_zeros m K c) $$ [P000 P010 P100 P110] with ⟨⟨Z000, Z010⟩, Z100, Z110⟩
  · isplitr; · iexact Hrec
    isplitl [P000 P010]
    · isplitl [P000] <;> iassumption
    isplitl [P100] <;> iassumption
  ihave Hf0 := (recv_join m c 0) $$ [Hd0 Hl0]
  · isplitl [Hd0] <;> iassumption
  ihave Hf1 := (recv_join m c 1) $$ [Hd1 Hl1]
  · isplitl [Hd1] <;> iassumption
  ihave He0 := (own_join m c 0) $$ [Hr0 Ht0 Ho0]
  · isplitl [Hr0]; · iexact Hr0
    isplitl [Ht0] <;> iassumption
  ihave He1 := (own_join m c 1) $$ [Hr1 Ht1 Ho1]
  · isplitl [Hr1]; · iexact Hr1
    isplitl [Ht1] <;> iassumption
  ihave Hb := (Entails.of_eq (show iprop((slotPts c 0 0 fullShare (gfin m c) ∗ bigSepL ds fun d => slotPts c 0 d fullShare (gfin m c))
      ∗ (slotPts c 1 0 fullShare (gfin m c) ∗ bigSepL ds fun d => slotPts c 1 d fullShare (gfin m c)))
    = (gM.view.loc (c : Thread nD τ) ↦[Finset.univ]{fullShare} gfin m c : sProp 𝕄) from (buf_slots c _ _).symm)) $$ [He0 He1 Hf0 Hf1]
  · isplitl [He0 Hf0]
    · isplitl [He0] <;> iassumption
    isplitl [He1] <;> iassumption
  iapply (wp_done c)
  iapply Hk
  isplitl [HO]; · iexact HO
  isplitl [Z000 Z010 Z100 Z110 Z00 Z01 Z10 Z11]
  · isplitl [Z000 Z010 Z00 Z01]
    · isplitl [Z000 Z00]
      · isplitl [Z000] <;> iassumption
      isplitl [Z010] <;> iassumption
    isplitl [Z100 Z10]
    · isplitl [Z100] <;> iassumption
    isplitl [Z110] <;> iassumption
  isplitl [Hb] <;> iassumption

variable (i : grid0.Coords) (arg1 : Memref sig .tc .vmem S512x1024 .f32) (harg1 : arg1.IsWhole) (arg2 : Memref sig .tc .vmem S2x1024 .f32) (harg2 : arg2.IsWhole)

local notation "BODY" => cc0_body (F := F) i arg1 harg1 arg2 harg2 gM (Memref.isWhole_whole _) cc0_scratch1 cc0_scratch2

/-- The credits of the transfers a device receives; those of segment 0's transfers it sent. -/
def inC (c : Dev nD) (s : Fin 2) : sProp 𝕄 := bigSepL ds fun d => cred (tallyAt (dCell c 1 s d) () N)
def outC (c : Dev nD) : sProp 𝕄 := bigSepL ds fun d => cred (tallyAt (dCell c 0 0 d) () N)

/-- The last block. -/
theorem run_last {Q : PUnit → sProp 𝕄} (c : Dev nD) (h1 : ¬ k0_cond1 i = 1#1) (h2 : ¬ k0_cond2 i = 1#1) (h3 : k0_cond3 i = 1#1) (h4 : k0_cond4 i = 1#1)
    (h5 : ¬ Scalar.cmpi .ne (Scalar.extui (Scalar.cmpi .eq (BitVec.ofNat 32 (i 0).val) 3#32) : BitVec 32) 0#32 = 1#1) (h6 : ¬ k0_cond6 i = 1#1)
    (h7 : k0_cond7 i = 1#1) (h8 : k0_cond8 i = 1#1) (o3 : k0_off3 i = ![1, 0, 0, 0]) (o4 : k0_off4 i = ![1, 0, 1, 0]) (X : Vec F S512x1024 .f32) (Y : Vec F S2x1024 .f32)
    (p : Vec F S1x1x1x1024 .f32 × Vec F S1x1x1x1024 .f32) (hp : (k0_pay13 (k0_pay7 X) p.1, k0_pay14 (k0_pay7 X) (k0_pay8 i c X) p.1 p.2) = cand m c 7) :
    iprop(records m K ∗ ow c (O₂ c) ∗ (xferTok c 1 ∗ inC c 0 ∗ inC c 1 ∗ fan (pos c 0) ∗ fan (pos c 1)) ∗ outC c
        ∗ (rem c 0 0 (gfin m c) ∗ tok c 0 0 (gfin m c) 0) ∗ bigSepL ds (fun d => iprop(∃ f, slotPts (up c d) 1 d fullShare f))
        ∗ slotPts c 1 0 fullShare (rows p) ∗ owns (c : Thread nD τ) arg1 fullShare X ∗ owns (c : Thread nD τ) arg2 fullShare Y)
      ⊢ iprop(((ow c 0 ∗ (fan (zed c 0) ∗ fan (zed c 1)) ∗ (gM.view.loc (c : Thread nD τ) ↦[Finset.univ]{fullShare} gfin m c)
          ∗ owns (c : Thread nD τ) arg1 fullShare X ∗ owns (c : Thread nD τ) arg2 fullShare (outAt m c)) -∗ Q ⟨⟩) -∗ WP c BODY Q) := by
  rw [body_last i arg1 harg1 arg2 harg2 h1 h2 h3 h4 h5 h6 h7 h8]
  simp only [wp_deviceId]
  unfold xferTok inC outC
  iintro ⟨#Hrec, HO, ⟨⟨Hta, Htb⟩, Hc10, Hc11, HP0, HP1⟩, Hc00, Hk0, Hpeer, Hs, Hx, Hy⟩ Hk
  iapply (wp_loadX c arg1 X _) $$ Hx; iintro Hx
  iapply (wp_comb i c 1 h3 o3 o4 (k0_pay7 X) (k0_pay8 i c X) p) $$ Hs; iintro Hs
  ihave Hs := (Entails.of_eq (show slotPts c 1 0 fullShare (rows (k0_pay13 (k0_pay7 X) p.1, k0_pay14 (k0_pay7 X) (k0_pay8 i c X) p.1 p.2)) = slotPts c 1 0 fullShare (gfin m c) from by
    rw [hp]; exact slotPts_congr c 1 0 fullShare fun i hi => (gfin_own m c 1 hi).symm)) $$ Hs
  ihave Hs := (slot_toks c 1 0 (gfin m c)).1 $$ Hs
  icases Hs with ⟨Hd, Hz, Htk⟩
  iapply (wp_sends m K c 1 0 ds (fun d hd => (mem_ds d).mp hd)) $$ [HO Htk Hpeer Hta Htb]
  · isplitr; · iexact Hrec
    isplitl [HO]; · iexact HO
    isplitl [Htk]; · iexact Htk
    isplitl [Hpeer]; · iexact Hpeer
    isplitl [Hta] <;> iassumption
  iintro ⟨HO, Hc01⟩
  iapply (wp_finish m K c arg2 Y) $$ [HO Hc00 Hc01 Hc10 Hc11 HP0 HP1 Hk0 Hd Hz Hy]
  · isplitr; · iexact Hrec
    isplitl [HO]; · iexact HO
    isplitl [Hc00]; · iexact Hc00
    isplitl [Hc01]; · iexact Hc01
    isplitl [Hc10]; · iexact Hc10
    isplitl [Hc11]; · iexact Hc11
    isplitl [HP0]; · iexact HP0
    isplitl [HP1]; · iexact HP1
    isplitl [Hk0]; · iexact Hk0
    isplitl [Hd Hz]
    · isplitl [Hd] <;> iassumption
    iexact Hy
  iintro ⟨HO, HZ, Hb, Hy⟩
  iapply Hk
  isplitl [HO]; · iexact HO
  isplitl [HZ]; · iexact HZ
  isplitl [Hb]; · iexact Hb
  isplitl [Hx] <;> iassumption

end Cert.ArgmaxProof
-- ==== Proof.Body.lean ====
/-
The grid's proof: what a device holds before every block, and the body's obligation there.
-/
module

public import proofs.«01_k».proof.Proof.Last
public import proofs.«01_k».proof.Proof.Gen.KernelIdeal.Points
public import Idealize.ShloMosaic.Lib.Pipeline.FrameBody

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat BodyObligation)

local notation "𝕄" => MT nD τ sig Unit (Elt F) ℕ UU ℕ

variable (m : (ℓ : Loc nD τ sig) → Buf (Elt F) ℓ) (ρ : Dev nD → PrngReg)

/-! ## What each kind of block decides -/

/-- The conditions and offsets at a block, read off its coordinates. -/
theorem at_first : k0_cond1 (grid0.coords (gpt 0)) = 1#1 ∧ k0_cond2 (grid0.coords (gpt 0)) = 1#1 ∧ ¬ k0_cond3 (grid0.coords (gpt 0)) = 1#1
    ∧ ¬ k0_cond4 (grid0.coords (gpt 0)) = 1#1 ∧ ¬ k0_cond8 (grid0.coords (gpt 0)) = 1#1
    ∧ k0_off1 (grid0.coords (gpt 0)) = ![0, 0, 0, 0] ∧ k0_off2 (grid0.coords (gpt 0)) = ![0, 0, 1, 0] := by decide
theorem at_mid : ∀ n ∈ [1, 2, 5, 6], ¬ k0_cond1 (grid0.coords (gpt n)) = 1#1 ∧ ¬ k0_cond2 (grid0.coords (gpt n)) = 1#1 ∧ k0_cond3 (grid0.coords (gpt n)) = 1#1
    ∧ ¬ k0_cond4 (grid0.coords (gpt n)) = 1#1 ∧ ¬ k0_cond8 (grid0.coords (gpt n)) = 1#1
    ∧ k0_off3 (grid0.coords (gpt n)) = ![n / 4, 0, 0, 0] ∧ k0_off4 (grid0.coords (gpt n)) = ![n / 4, 0, 1, 0] := by decide
theorem at_send : ¬ k0_cond1 (grid0.coords (gpt 3)) = 1#1 ∧ ¬ k0_cond2 (grid0.coords (gpt 3)) = 1#1 ∧ k0_cond3 (grid0.coords (gpt 3)) = 1#1
    ∧ k0_cond4 (grid0.coords (gpt 3)) = 1#1
    ∧ Scalar.cmpi .ne (Scalar.extui (Scalar.cmpi .eq (BitVec.ofNat 32 ((grid0.coords (gpt 3)) 0).val) 3#32) : BitVec 32) 0#32 = 1#1
    ∧ k0_cond6 (grid0.coords (gpt 3)) = 1#1 ∧ ¬ k0_cond7 (grid0.coords (gpt 3)) = 1#1 ∧ ¬ k0_cond8 (grid0.coords (gpt 3)) = 1#1
    ∧ k0_off3 (grid0.coords (gpt 3)) = ![0, 0, 0, 0] ∧ k0_off4 (grid0.coords (gpt 3)) = ![0, 0, 1, 0] := by decide
theorem at_start : ¬ k0_cond1 (grid0.coords (gpt 4)) = 1#1 ∧ k0_cond2 (grid0.coords (gpt 4)) = 1#1 ∧ ¬ k0_cond3 (grid0.coords (gpt 4)) = 1#1
    ∧ ¬ k0_cond4 (grid0.coords (gpt 4)) = 1#1 ∧ ¬ k0_cond8 (grid0.coords (gpt 4)) = 1#1
    ∧ k0_off1 (grid0.coords (gpt 4)) = ![1, 0, 0, 0] ∧ k0_off2 (grid0.coords (gpt 4)) = ![1, 0, 1, 0] := by decide
theorem at_last : ¬ k0_cond1 (grid0.coords (gpt 7)) = 1#1 ∧ ¬ k0_cond2 (grid0.coords (gpt 7)) = 1#1 ∧ k0_cond3 (grid0.coords (gpt 7)) = 1#1
    ∧ k0_cond4 (grid0.coords (gpt 7)) = 1#1
    ∧ (¬ Scalar.cmpi .ne (Scalar.extui (Scalar.cmpi .eq (BitVec.ofNat 32 ((grid0.coords (gpt 7)) 0).val) 3#32) : BitVec 32) 0#32 = 1#1)
    ∧ ¬ k0_cond6 (grid0.coords (gpt 7)) = 1#1 ∧ k0_cond7 (grid0.coords (gpt 7)) = 1#1 ∧ k0_cond8 (grid0.coords (gpt 7)) = 1#1
    ∧ k0_off3 (grid0.coords (gpt 7)) = ![1, 0, 0, 0] ∧ k0_off4 (grid0.coords (gpt 7)) = ![1, 0, 1, 0] := by decide

/-! ## What a device holds -/

/-- What stays with a device all along: the cells' records and the levels. -/
def ctx (c : Dev nD) : sProp 𝕄 := iprop((∃ K, records m K) ∗ levAts L lv)
/-- For its barrier wait; for its last block. -/
def barRest (c : Dev nD) : sProp 𝕄 := iprop(cred (tallyAt (barCell c) () 15) ∗ atPos ER (barCell c) 0 ∅ 0)
def tail (c : Dev nD) : sProp 𝕄 := iprop(xferTok c 1 ∗ inC c 0 ∗ inC c 1 ∗ fan (pos c 0) ∗ fan (pos c 1))
/-- After segment 0's transfers went out. -/
def out0 (c : Dev nD) : sProp 𝕄 :=
  iprop(semVal (barCell c) 0 ∗ outC c ∗ (rem c 0 0 (gfin m c) ∗ tok c 0 0 (gfin m c) 0) ∗ bigSepL ds (fun d => iprop(∃ f, slotPts (up c d) 1 d fullShare f)))

/-- What a device starts from. -/
def start (c : Dev nD) : sProp 𝕄 := iprop(ctx m c ∗ sigTok c ∗ barRest c ∗ xferTok c 0 ∗ tail c)
def phiA (c : Dev nD) : sProp 𝕄 := iprop(start m c ∗ ∃ f : GBuf F, gM.view.loc (c : Thread nD τ) ↦[Finset.univ]{fullShare} f)
def phiB (c : Dev nD) (n : ℕ) : sProp 𝕄 :=
  iprop((ctx m c ∗ barRest c ∗ xferTok c 0 ∗ tail c ∗ ∃ f, slotPts c 1 0 fullShare f) ∗ slotPts c 0 0 fullShare (rows (cand m c n)))
def phiC (c : Dev nD) : sProp 𝕄 := iprop((ctx m c ∗ tail c ∗ out0 m c) ∗ ∃ f, slotPts c 1 0 fullShare f)
def phiD (c : Dev nD) (n : ℕ) : sProp 𝕄 := iprop((ctx m c ∗ tail c ∗ out0 m c) ∗ slotPts c 1 0 fullShare (rows (cand m c n)))
def phiE (c : Dev nD) : sProp 𝕄 :=
  iprop(semVal (barCell c) 0 ∗ (fan (zed c 0) ∗ fan (zed c 1)) ∗ (gM.view.loc (c : Thread nD τ) ↦[Finset.univ]{fullShare} gfin m c))

/-- Before block `n`. -/
def phi (c : Dev nD) : ℕ → sProp 𝕄
  | 0 => phiA m c
  | 1 => phiB m c 0
  | 2 => phiB m c 1
  | 3 => phiB m c 2
  | 4 => phiC m c
  | 5 => phiD m c 4
  | 6 => phiD m c 5
  | 7 => phiD m c 6
  | _ => phiE m c

/-! ## The blocks -/

section Steps
variable (arg1 : Memref sig .tc .vmem S512x1024 .f32) (harg1 : arg1.IsWhole) (arg2 : Memref sig .tc .vmem S2x1024 .f32) (harg2 : arg2.IsWhole)

/-- The body at block `n`. -/
abbrev bodyN (n : ℕ) := cc0_body (F := F) (grid0.coords (gpt n)) arg1 harg1 arg2 harg2 gM (Memref.isWhole_whole _) cc0_scratch1 cc0_scratch2

/-- Block `n` runs from `P` to `P'`, owing `O` before and `O'` after, the result's buffer passing from `R` to `R'`. -/
def Step (c : Dev nD) (n : ℕ) (P P' : sProp 𝕄) (O O' : CellTallies nD τ sig Unit) (R R' : sProp 𝕄) : Prop :=
  ∀ Q : PUnit → sProp 𝕄, iprop(P ∗ ow c O ∗ owns (c : Thread nD τ) arg1 fullShare (xblk m c n) ∗ R)
    ⊢ iprop(((P' ∗ ow c O' ∗ owns (c : Thread nD τ) arg1 fullShare (xblk m c n) ∗ R') -∗ Q ⟨⟩) -∗ WP c (bodyN arg1 harg1 arg2 harg2 n) Q)

theorem step_first (c : Dev nD) (R : sProp 𝕄) : Step m arg1 harg1 arg2 harg2 c 0 (phiA m c) (phiB m c 0) (O₀ c) (O₁ c) R R := fun Q => by
  unfold phiA phiB start ctx
  rw [cand_init m c 0 rfl]
  obtain ⟨h1, h2, h3, h4, h8, o1, o2⟩ := at_first
  iintro ⟨⟨⟨⟨⟨%K, #Hrec⟩, #Hlev⟩, Hsig, Hb, Hx0, Htl⟩, ⟨%f, Hg⟩⟩, HO, Hx, HR⟩ Hk
  iapply (run_first m K (grid0.coords (gpt 0)) arg1 harg1 arg2 harg2 c h1 h2 h3 h4 h8 o1 o2 (xblk m c 0) f) $$ [HO Hsig Hg Hx]
  · isplitr; · iexact Hrec
    isplitl [HO]; · iexact HO
    isplitl [Hsig]; · iexact Hsig
    isplitl [Hg] <;> iassumption
  iintro ⟨HO, Hs, Hs1, Hx⟩
  iapply Hk
  isplitl [Hb Hx0 Htl Hs Hs1]
  · isplitl [Hb Hx0 Htl Hs1]
    · isplitr
      · isplitr; · (iexists K; iexact Hrec)
        iexact Hlev
      isplitl [Hb]; · iexact Hb
      isplitl [Hx0]; · iexact Hx0
      isplitl [Htl] <;> iassumption
    iexact Hs
  isplitl [HO]; · iexact HO
  isplitl [Hx] <;> iassumption

/-- A block inside a segment: all but the candidate passes by. -/
theorem step_mid (c : Dev nD) (n : ℕ) (s : Fin 2) (hs : s.val = (n + 1) / 4) (hn : n + 1 ∈ [1, 2, 5, 6]) (h : ¬ (n + 1) % 4 = 0) (O : CellTallies nD τ sig Unit) (P R : sProp 𝕄) :
    Step m arg1 harg1 arg2 harg2 c (n + 1) iprop(P ∗ slotPts c s 0 fullShare (rows (cand m c n))) iprop(P ∗ slotPts c s 0 fullShare (rows (cand m c (n + 1)))) O O R R := fun Q => by
  obtain ⟨h1, h2, h3, h4, h8, o3, o4⟩ := at_mid (n + 1) hn
  rw [← hs] at o3 o4
  rw [cand_comb m c n h]
  iintro ⟨⟨HP, Hs⟩, HO, Hx, HR⟩ Hk
  iapply (run_mid (grid0.coords (gpt (n + 1))) arg1 harg1 arg2 harg2 c s h1 h2 h3 h4 h8 o3 o4 (xblk m c (n + 1)) (cand m c n)) $$ [Hs Hx]
  · isplitl [Hs] <;> iassumption
  iintro ⟨Hs, Hx⟩
  iapply Hk
  isplitl [HP Hs]
  · isplitl [HP]; · iexact HP
    iexact Hs
  isplitl [HO]; · iexact HO
  isplitl [Hx] <;> iassumption

theorem step_send (c : Dev nD) (R : sProp 𝕄) : Step m arg1 harg1 arg2 harg2 c 3 (phiB m c 2) (phiC m c) (O₁ c) (O₂ c) R R := fun Q => by
  obtain ⟨h1, h2, h3, h4, h5, h6, h7, h8, o3, o4⟩ := at_send
  unfold phiB phiC ctx barRest out0 outC
  iintro ⟨⟨⟨⟨⟨%K, #Hrec⟩, #Hlev⟩, ⟨Hc, Hat⟩, Hx0, Htl, Hs1⟩, Hs⟩, HO, Hx, HR⟩ Hk
  iapply (run_send m K (grid0.coords (gpt 3)) arg1 harg1 arg2 harg2 c h1 h2 h3 h4 h5 h6 h7 h8 o3 o4 (xblk m c 3) (cand m c 2) (cand_comb m c 2 (by decide)).symm) $$ [HO Hc Hat Hx0 Hs Hx]
  · isplitr; · iexact Hrec
    isplitr; · iexact Hlev
    isplitl [HO]; · iexact HO
    isplitl [Hc]; · iexact Hc
    isplitl [Hat]; · iexact Hat
    isplitl [Hx0]; · iexact Hx0
    isplitl [Hs] <;> iassumption
  iintro ⟨HO, Hz, Hcr, Hr, Hp, Hx⟩
  iapply Hk
  isplitl [Htl Hz Hcr Hr Hp Hs1]
  · isplitl [Htl Hz Hcr Hr Hp]
    · isplitr
      · isplitr; · (iexists K; iexact Hrec)
        iexact Hlev
      isplitl [Htl]; · iexact Htl
      isplitl [Hz]; · iexact Hz
      isplitl [Hcr]; · iexact Hcr
      isplitl [Hr] <;> iassumption
    iexact Hs1
  isplitl [HO]; · iexact HO
  isplitl [Hx] <;> iassumption

theorem step_start (c : Dev nD) (O : CellTallies nD τ sig Unit) (R : sProp 𝕄) : Step m arg1 harg1 arg2 harg2 c 4 (phiC m c) (phiD m c 4) O O R R := fun Q => by
  obtain ⟨h1, h2, h3, h4, h8, o1, o2⟩ := at_start
  unfold phiC phiD
  rw [cand_init m c 4 (by decide)]
  iintro ⟨⟨HP, Hs⟩, HO, Hx, HR⟩ Hk
  iapply (run_start (grid0.coords (gpt 4)) arg1 harg1 arg2 harg2 c 1 h1 h2 h3 h4 h8 o1 o2 (xblk m c 4)) $$ [Hs Hx]
  · isplitl [Hs] <;> iassumption
  iintro ⟨Hs, Hx⟩
  iapply Hk
  isplitl [HP Hs]
  · isplitl [HP]; · iexact HP
    iexact Hs
  isplitl [HO]; · iexact HO
  isplitl [Hx] <;> iassumption

theorem step_last (c : Dev nD) (Y : Vec F S2x1024 .f32) : Step m arg1 harg1 arg2 harg2 c 7 (phiD m c 6) (phiE m c) (O₂ c) 0
    (owns (c : Thread nD τ) arg2 fullShare Y) (owns (c : Thread nD τ) arg2 fullShare (outAt m c)) := fun Q => by
  obtain ⟨h1, h2, h3, h4, h5, h6, h7, h8, o3, o4⟩ := at_last
  unfold phiD phiE ctx out0 tail
  iintro ⟨⟨⟨⟨⟨%K, #Hrec⟩, #Hlev⟩, Htl, Hz, Hcr, Hr, Hp⟩, Hs⟩, HO, Hx, HR⟩ Hk
  iapply (run_last m K (grid0.coords (gpt 7)) arg1 harg1 arg2 harg2 c h1 h2 h3 h4 h5 h6 h7 h8 o3 o4 (xblk m c 7) Y (cand m c 6) (cand_comb m c 6 (by decide)).symm) $$ [HO Htl Hcr Hr Hp Hs Hx HR]
  · isplitr; · iexact Hrec
    isplitl [HO]; · iexact HO
    isplitl [Htl]; · iexact Htl
    isplitl [Hcr]; · iexact Hcr
    isplitl [Hr]; · iexact Hr
    isplitl [Hp]; · iexact Hp
    isplitl [Hs]; · iexact Hs
    isplitl [Hx] <;> iassumption
  iintro ⟨HO, HZ, Hg, Hx, HR⟩
  iapply Hk
  isplitl [Hz HZ Hg]
  · isplitl [Hz]; · iexact Hz
    isplitl [HZ] <;> iassumption
  isplitl [HO]; · iexact HO
  isplitl [Hx] <;> iassumption

/-- Every block but the last, from what is held before it to what is held after. -/
theorem step_idle (c : Dev nD) (n : ℕ) (hn : n < 7) (R : sProp 𝕄) :
    Step m arg1 harg1 arg2 harg2 c n (phi m c n) (phi m c (n + 1)) (owedAt c n) (owedAt c (n + 1)) R R := by
  match n, hn with
  | 0, _ => exact step_first m arg1 harg1 arg2 harg2 c R
  | 1, _ => exact step_mid m arg1 harg1 arg2 harg2 c 0 0 rfl (by decide) (by decide) (O₁ c) _ R
  | 2, _ => exact step_mid m arg1 harg1 arg2 harg2 c 1 0 rfl (by decide) (by decide) (O₁ c) _ R
  | 3, _ => exact step_send m arg1 harg1 arg2 harg2 c R
  | 4, _ => exact step_start m arg1 harg1 arg2 harg2 c (O₂ c) R
  | 5, _ => exact step_mid m arg1 harg1 arg2 harg2 c 4 1 rfl (by decide) (by decide) (O₂ c) _ R
  | 6, _ => exact step_mid m arg1 harg1 arg2 harg2 c 5 1 rfl (by decide) (by decide) (O₂ c) _ R

end Steps

/-! ## The obligation -/

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t.val
    | ⟨1, _⟩ => outAt m c
  Φ t := phi m c t.val
  q _ := fullShare
  owed t := owedAt c t.val

theorem phi_before (c : Dev nD) (t : Fin cfg0.N) : (dats m ρ 0 c).Φ t.castSucc = phi m c t.val := by dsimp only [dats]; exact congrArg (phi m c) (Fin.val_castSucc t)
theorem phi_after (c : Dev nD) (t : Fin cfg0.N) : (dats m ρ 0 c).Φ t.succ = phi m c (t.val + 1) := by dsimp only [dats]; exact congrArg (phi m c) (Fin.val_succ t)

theorem gpt_val (t : Fin cfg0.N) : gpt t.val = t := Fin.ext (Nat.mod_eq_of_lt (lt_of_lt_of_eq t.isLt N_0))

theorem blockOf_eq (c : Dev nD) (t : Fin cfg0.N) : (dats m ρ 0 c).blockOf 0 t = xblk m c t.val := by
  unfold xblk
  rw [gpt_val]
  rfl

/-- Window 0's buffer holds the block's rows. -/
theorem before_rows (c : Dev nD) (t : Fin cfg0.N) (d) : (dats m ρ 0 c).before 0 t d = xblk m c t.val :=
  ((dats m ρ 0 c).before_in_eq_fetched 0 rfl (fun _ => rfl) (fun _ _ _ => rfl) (fun t => (blockOf_eq m ρ c t).symm) t d).trans (blockOf_eq m ρ c t)

/-- What is owed, whatever has been waited for. -/
theorem owesAt_eq (c : Dev nD) (t : Fin (cfg0.N + 1)) : ((dats m ρ 0 c).owesAt () t : sProp 𝕄) ⊣⊢ ow c (owedAt c t.val) := by
  unfold Dat.owesAt Pipeline.owesWithin ow
  constructor
  · iintro ⟨%W, %hW, HO⟩
    iexists W; iexact HO
  · iintro ⟨%W, HO⟩
    iexists W
    isplitr; · (ipureintro; exact fun _ _ => Or.inl trivial)
    iexact HO

theorem idle_out : ∀ t : Fin grid0.N, t.val < 7 → idle0 1 (grid0.coords t) = true ∧ (cfg0.win 1).flush t = false := fun t ht => by
  refine ⟨?_, ?_⟩
  · revert t; decide
  · have := flush0_1 t
    cases h : (cfg0.win 1).flush t with
    | false => rfl
    | true => exact absurd (this.mp h) (by omega)
theorem busy_out : idle0 1 (grid0.coords (gpt 7)) = false := by decide

/-- The body's obligation at every block. -/
theorem body_obligation (c : Dev nD) : BodyObligation (dats (F := F) m ρ 0 c) (defs₀ (F := F)) 𝒱₀ () Set.univ := fun t => by
  have hN : t.val < 8 := lt_of_lt_of_eq t.isLt N_0
  rw [bigSep_W0, bigSep_W0]
  by_cases h7 : t.val < 7
  · obtain ⟨hi, hf⟩ := idle_out t h7
    have hs := step_idle m (win0_0.stage (cfg0.slots t 0)) (hstage0_0 ((cfg0.slots t 0).cast nbuf0_0)) (win0_1.stage (cfg0.slots t 1)) (hstage0_1 ((cfg0.slots t 1).cast nbuf0_1)) c t.val h7
      iprop(∃ d, owns (c : Thread nD τ) ((cfg0.win 1).stage (cfg0.slots t 1)) fullShare ((dats m ρ 0 c).before 1 t d))
    unfold Step bodyN at hs
    rw [gpt_val] at hs
    simp only [hi, hf]
    iintro ⟨HP, HO, ⟨%d, Hx⟩, HR⟩
    ihave HO := (owesAt_eq m ρ c t.castSucc).1 $$ HO
    ihave Hx := (Entails.of_eq (congrArg (owns (c : Thread nD τ) ((cfg0.win 0).stage (cfg0.slots t 0)) fullShare) (before_rows m ρ c t d))) $$ Hx
    iapply (hs _) $$ [HP HO Hx HR]
    · isplitl [HP]; · (iapply (Entails.of_eq (phi_before m ρ c t)); iexact HP)
      isplitl [HO]; · iexact HO
      isplitl [Hx]; · iexact Hx
      iexact HR
    iintro ⟨HP, HO, Hx, HR⟩
    isplitl [HP]; · (iapply (Entails.of_eq (phi_after m ρ c t).symm); iexact HP)
    isplitl [HO]; · (iapply (owesAt_eq m ρ c t.succ).2; iexact HO)
    isplitl [Hx]; · iexact Hx
    iexact HR
  · have ht : t = gpt 7 := Fin.ext (by show t.val = 7; omega)
    have hb : idle0 1 (grid0.coords t) = false := by rw [ht]; exact busy_out
    simp only [hb]
    subst ht
    have hs := fun Y => step_last m (win0_0.stage (cfg0.slots (gpt 7) 0)) (hstage0_0 ((cfg0.slots (gpt 7) 0).cast nbuf0_0)) (win0_1.stage (cfg0.slots (gpt 7) 1)) (hstage0_1 ((cfg0.slots (gpt 7) 1).cast nbuf0_1)) c Y
    unfold Step bodyN at hs
    iintro ⟨HP, HO, ⟨%d, Hx⟩, ⟨%d', HR⟩⟩
    ihave HO := (owesAt_eq m ρ c (Fin.castSucc (n := cfg0.N) (gpt 7))).1 $$ HO
    ihave Hx := (Entails.of_eq (congrArg (owns (c : Thread nD τ) ((cfg0.win 0).stage (cfg0.slots (gpt 7) 0)) fullShare) (before_rows m ρ c (gpt 7) d))) $$ Hx
    iapply (hs _ _) $$ [HP HO Hx HR]
    · isplitl [HP]; · (iapply (Entails.of_eq (show (dats m ρ 0 c).Φ (Fin.castSucc (n := cfg0.N) (gpt 7)) = phiD m c 6 from phi_before m ρ c (gpt 7))); iexact HP)
      isplitl [HO]; · iexact HO
      isplitl [Hx]; · iexact Hx
      iexact HR
    iintro ⟨HP, HO, Hx, HR⟩
    isplitl [HP]; · (iapply (Entails.of_eq (show phiE m c = (dats m ρ 0 c).Φ (Fin.succ (n := cfg0.N) (gpt 7)) from (phi_after m ρ c (gpt 7)).symm)); iexact HP)
    isplitl [HO]; · (iapply (owesAt_eq m ρ c (Fin.succ (n := cfg0.N) (gpt 7))).2; iexact HO)
    isplitl [Hx]; · iexact Hx
    iexact HR

end Cert.ArgmaxProof
-- ==== Proof.Run.lean ====
/-
The launch: the cells' invariants, the tokens dealt to the devices that pay with them, the credits; the run of the program.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat BodyObligation cellOf)

local notation "𝕄" => MT nD τ sig Unit (Elt F) ℕ UU ℕ

variable (m : (ℓ : Loc nD τ sig) → Buf (Elt F) ℓ) (ρ : Dev nD → PrngReg)

/-! ## The cells and tokens of the launch -/

/-- The kernel's own semaphores. -/
abbrev osem (j : Fin 2 × Fin 2 × Fin 16) : SemLoc sig := .dma (dsem j.1 j.2.1 j.2.2)

theorem osem_inj : Function.Injective osem := fun j j' h => by
  obtain ⟨h1, h2, h3⟩ := dsem_inj (SemLoc.dma.inj h)
  exact Prod.ext h1 (Prod.ext h2 h3)

theorem ownSemFacts : Pipeline.OwnSemFacts cfg0.spec osem := ⟨by decide, osem_inj, by decide⟩

theorem share_eq (c : Dev nD) (w : Fin cfg0.W) : (dats m ρ 0 c).share w = fullShare := by unfold Dat.share; split <;> rfl

theorem kcell_inj : Function.Injective (kcell : Dev nD × KI → GSem nD τ sig) := fun p p' h => by
  obtain ⟨c, k⟩ := p
  obtain ⟨c', k'⟩ := p'
  have hc : c = c' := congrArg (fun g : GSem nD τ sig => g.1.1) h
  have hk : ksem k = ksem k' := congrArg Prod.snd h
  subst hc
  cases k with
  | inl u => cases k' with
    | inl u' => rfl
    | inr j' => exact absurd hk (by simp)
  | inr j => cases k' with
    | inl u' => exact absurd hk (by simp)
    | inr j' => exact congrArg (fun j => (c, Sum.inr j)) (osem_inj hk)

def allCells : Finset (GSem nD τ sig) := Finset.univ.map ⟨kcell, kcell_inj⟩

/-- The tokens minted for a device's cells: sixteen of its barrier, one of each transfer semaphore. -/
abbrev tokAt (p : Dev nD × (Fin 16 ⊕ (Fin 2 × Fin 2 × Fin 16))) : GSem nD τ sig × ℕ × Fin 16 := match p.2 with
  | .inl d => (barCell p.1, 0, d)
  | .inr j => ((p.1 : Thread nD τ), osem j, 0, 0) |> fun x => ((x.1, x.2.1), x.2.2)

theorem tokAt_inj : Function.Injective tokAt := fun p p' h => by
  obtain ⟨c, k⟩ := p
  obtain ⟨c', k'⟩ := p'
  have hc : c = c' := by
    have := congrArg (fun x : GSem nD τ sig × ℕ × Fin 16 => x.1.1.1) h
    cases k <;> cases k' <;> exact this
  subst hc
  cases k with
  | inl d => cases k' with
    | inl d' => exact congrArg (fun d => (c, Sum.inl d)) (congrArg (fun x : GSem nD τ sig × ℕ × Fin 16 => x.2.2) h)
    | inr j' => exact absurd (congrArg (fun x : GSem nD τ sig × ℕ × Fin 16 => x.1.2) h) (by simp)
  | inr j => cases k' with
    | inl d' => exact absurd (congrArg (fun x : GSem nD τ sig × ℕ × Fin 16 => x.1.2) h) (by simp)
    | inr j' => exact congrArg (fun j => (c, Sum.inr j)) (osem_inj (congrArg (fun x : GSem nD τ sig × ℕ × Fin 16 => x.1.2) h))

def allToks : Finset (GSem nD τ sig × ℕ × Fin 16) := Finset.univ.map ⟨tokAt, tokAt_inj⟩

def u₀ : UU := (initOf (Pipeline.cells cfgs cellOf_inj) (Pipeline.launchToks cfgs cellOf_inj), initOf allCells allToks)

/-- A device's tokens as minted: of its barrier, of its transfer semaphores. -/
def barToks (c : Dev nD) : sProp 𝕄 := bigSep Finset.univ fun d : Fin 16 => dutyTok ER (barCell c) 0 d
abbrev dTok (c : Dev nD) (b s : Fin 2) (d : Fin 16) : sProp 𝕄 := dutyTok ER (dCell c b s d) 0 0
def toks (c : Dev nD) : sProp 𝕄 := iprop(barToks c ∗ fan (dTok c 0) ∗ fan (dTok c 1))

/-- What the launch's element deals device `c`. -/
def G (c : Dev nD) : sProp 𝕄 :=
  iprop((bigSep Finset.univ fun k : KI => roundState ER (Rd m) (kcell (c, k)) 0)
    ∗ (bigSep Finset.univ fun k : KI => iprop(atPos ER (kcell (c, k)) 0 ∅ 0 ∗ reached ER (kcell (c, k)) 0)) ∗ toks c)

/-- A device's positions and the tokens it pays with. -/
def linear (c : Dev nD) : sProp 𝕄 :=
  iprop((bigSep Finset.univ fun k : KI => atPos ER (kcell (c, k)) 0 ∅ 0) ∗ sigTok c ∗ xferTok c 0 ∗ xferTok c 1)
/-- What the exchange across the devices makes of it. -/
def G' (c : Dev nD) : sProp 𝕄 := iprop((∃ K, records m K) ∗ linear c)

omit [FloatOps F] in
/-- A family over a device's cells: the barrier's, the transfers'. -/
theorem bigSep_KI (Φ : KI → sProp 𝕄) :
    bigSep Finset.univ Φ = iprop(Φ (.inl ()) ∗ fan (fun s d => Φ (.inr (0, s, d))) ∗ fan (fun s d => Φ (.inr (1, s, d)))) := by
  rw [bigSep_univ_sum, bigSep_univ_of_subsingleton (), show bigSep Finset.univ (fun j : Fin 2 × Fin 2 × Fin 16 => Φ (.inr j)) = _ from bigSep_sems fun b s d => Φ (.inr (b, s, d))]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks barToks
    rw [bigSep_univ_sum]
    exact congrArg (fun P => iprop((bigSep Finset.univ fun d : Fin 16 => dutyTok ER (barCell c) 0 d) ∗ P)) (bigSep_sems (dTok c))
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop(fan (zed c 0) ∗ fan (zed c 1)) := by
  unfold Pipeline.ownSems0
  exact bigSep_sems (zed c)
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq, bigSep_KI]
  iintro ⟨H, HB⟩
  isplitl [HB]; · iexact HB
  iexact H

/-- A device's cells, each under its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to those that pay with them -/

/-- A device and a distance, seen from the other end; the same with the distance kept. -/
def turn : Dev nD × Fin 16 ≃ Dev nD × Fin 16 where
  toFun p := (up p.1 p.2, neg p.2)
  invFun p := (up p.1 p.2, neg p.2)
  left_inv p := Prod.ext (up_neg p.1 p.2) (neg_neg p.2)
  right_inv p := Prod.ext (up_neg p.1 p.2) (neg_neg p.2)
def shift : Dev nD × (Fin 2 × Fin 16) ≃ Dev nD × (Fin 2 × Fin 16) where
  toFun p := (up p.1 p.2.2, p.2)
  invFun p := (dn p.1 p.2.2, p.2)
  left_inv p := Prod.ext (dn_up p.1 p.2.2) rfl
  right_inv p := Prod.ext (up_dn p.1 p.2.2) rfl

omit [FloatOps F] in
theorem barToks_around : (bigSep Finset.univ fun c : Dev nD => (barToks c : sProp 𝕄)) ⊢ bigSep Finset.univ fun c : Dev nD => sigTok c := by
  have h (c : Dev nD) : (bigSep Finset.univ fun d : Fin 16 => dutyTok ER (barCell (up c d)) 0 (neg d) : sProp 𝕄) ⊢ sigTok c := by
    rw [all_ds]
    unfold sigTok
    iintro ⟨-, H⟩
    iexact H
  unfold barToks
  rw [← bigSep_univ_prod (fun p : Dev nD × Fin 16 => (dutyTok ER (barCell p.1) 0 p.2 : sProp 𝕄)), bigSep_univ_equiv turn, bigSep_univ_prod]
  exact bigSep_mono fun c _ => h c

omit [FloatOps F] in
theorem dToks_around : (bigSep Finset.univ fun c : Dev nD => (fan (dTok c 1) : sProp 𝕄)) = bigSep Finset.univ fun c : Dev nD => fan fun s d => dTok (up c d) 1 s d := by
  have h (Φ : Dev nD → Fin 2 → Fin 16 → sProp 𝕄) : (bigSep Finset.univ fun c : Dev nD => fan (Φ c)) = bigSep Finset.univ fun p : Dev nD × (Fin 2 × Fin 16) => Φ p.1 p.2.1 p.2.2 := by
    rw [bigSep_univ_prod]
    exact bigSep_congr fun c _ => (bigSep_fan (Φ c)).symm
  rw [h, h, bigSep_univ_equiv shift]
  rfl

omit [FloatOps F] in
theorem toks_around : (bigSep Finset.univ fun c : Dev nD => (toks c : sProp 𝕄)) ⊢ bigSep Finset.univ fun c : Dev nD => iprop(sigTok c ∗ xferTok c 0 ∗ xferTok c 1) := by
  have h (c : Dev nD) : iprop(fan (dTok c 0) ∗ fan (fun s d => dTok (up c d) 1 s d) : sProp 𝕄) ⊢ iprop(xferTok c 0 ∗ xferTok c 1) := by
    unfold fan xferTok
    iintro ⟨⟨⟨-, H0⟩, ⟨-, H1⟩⟩, ⟨⟨-, H2⟩, ⟨-, H3⟩⟩⟩
    isplitl [H0 H2]
    · isplitl [H0] <;> iassumption
    isplitl [H1] <;> iassumption
  unfold toks
  rw [bigSep_sep', bigSep_sep', dToks_around, bigSep_sep', ← bigSep_sep' Finset.univ (fun c : Dev nD => (fan (dTok c 0) : sProp 𝕄))]
  exact BIClass.sep_mono barToks_around (bigSep_mono fun c _ => h c)

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × KI => iprop(∃ κ : ℕ, cellInv ER (Rd m) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd m) κ (kcell ck) : sProp 𝕄))) $$ HI
  icases HK with ⟨%K, #HI⟩
  ihave Htk := (toks_around (F := F)) $$ Htok
  iapply (bigSep_beside (R := records m K) (Φ := linear) fun c _ => show iprop(records m K ∗ linear c) ⊢ G' m c from by
    unfold G'
    iintro ⟨HR, Hl⟩
    isplitl [HR]; · (iexists K; iexact HR)
    iexact Hl)
  isplitr
  · unfold records; rw [bigSep_sep']
    isplitl; · iexact HI
    iexact HR
  · iapply (Entails.of_eq (show iprop((bigSep Finset.univ fun c : Dev nD => bigSep Finset.univ fun k : KI => (atPos ER (kcell (c, k)) 0 ∅ 0 : sProp 𝕄))
      ∗ bigSep Finset.univ fun c : Dev nD => iprop(sigTok c ∗ xferTok c 0 ∗ xferTok c 1)) = bigSep Finset.univ fun c : Dev nD => linear c from by
        unfold linear; rw [← bigSep_sep']))
    isplitl [Hat]; · iexact Hat
    iexact Htk

/-- The step across all devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

omit [FloatOps F] in
/-- One unit on a semaphore of every device at each listed distance, the launch deals a unit's credit per distance. -/
theorem cred_list (R : Dev nD → CellTallies nD τ sig Unit) (sm : Fin 16 → SemLoc sig) (n : ℕ) (l : List (Fin 16)) (c : Dev nD) :
    (Pipeline.launchCred (fun d => owe (R d) (fun k => tallyAt ((up d k : Thread nD τ), sm k) () n) l) c : sProp 𝕄)
      ⊢ iprop(Pipeline.launchCred R c ∗ bigSepL l fun k => cred (tallyAt ((c : Thread nD τ), sm k) () n)) := by
  induction l with
  | nil => rw [bigSepL_nil]; exact Laws.sep_emp.mpr
  | cons k l ih =>
    rw [bigSepL_cons']
    unfold owe
    rw [Pipeline.launchCred_add]
    iintro ⟨H, Hk⟩
    ihave H := ih $$ H
    icases H with ⟨HR, Hl⟩
    ihave Hk := (Pipeline.launchCred_tallyAt (sm k) (fun d => up d k) (fun d => dn d k) (fun d => up_dn d k) (fun d => dn_up d k) () n c) $$ Hk
    isplitl [HR]; · iexact HR
    isplitl [Hk] <;> iassumption

omit [FloatOps F] in
theorem tally_units (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

omit [FloatOps F] in
theorem creds (c : Dev nD) : (Pipeline.launchCred O₀ c : sProp 𝕄) ⊢ iprop(cred (tallyAt (barCell c) () 15) ∗ inC c 0 ∗ inC c 1) := by
  unfold inC
  iintro H
  ihave H := (cred_list O₁ (fun _ => .reg barS) 1 ds c) $$ H
  icases H with ⟨H, Hb⟩
  ihave H := (cred_list O₂ (fun d => .dma (dsem 1 0 d)) N ds c) $$ H
  icases H with ⟨H, H0⟩
  ihave H := (cred_list (fun _ => 0) (fun d => .dma (dsem 1 1 d)) N ds c) $$ H
  icases H with ⟨-, H1⟩
  ihave Hb := (Entails.of_eq (show (bigSepL ds fun _ => cred (tallyAt (barCell c) () 1) : sProp 𝕄) = cred (tallyAt (barCell c) () 15) from by
    rw [ds_eq, ← Pipeline.cred_finsetSum, Finset.sum_const, tally_units]; rfl)) $$ Hb
  isplitl [Hb]; · iexact Hb
  isplitl [H0] <;> iassumption

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' linear ctx barRest tail
  rw [bigSep_KI]
  iintro ⟨-, Hlev, Hcr, -, ⟨HR, ⟨Hb, HP0, HP1⟩, Hs, Hx0, Hx1⟩⟩
  ihave Hc := (creds (F := F) c) $$ Hcr
  icases Hc with ⟨Hcb, Hc0, Hc1⟩
  imodintro
  isplitl
  · isplitl [HR Hlev]
    · isplitl [HR] <;> iassumption
    isplitl [Hs]; · iexact Hs
    isplitl [Hb Hcb]
    · isplitl [Hcb] <;> iassumption
    isplitl [Hx0]; · iexact Hx0
    isplitl [Hx1]; · iexact Hx1
    isplitl [Hc0]; · iexact Hc0
    isplitl [Hc1]; · iexact Hc1
    isplitl [HP0] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phiA m c from rfl, scopedRest0_eq]
  unfold phiA
  iintro ⟨Hs, -, ⟨%f, Hr⟩⟩
  isplitl [Hs]; · iexact Hs
  iexists f; iexact Hr

theorem phiN_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = phiE m c from rfl, scopedRest0_eq, ownSems0_eq, unscopedSems0_eq]
  unfold phiE
  iintro ⟨HB, HZ, Hg⟩
  isplitl [HB]; · iexact HB
  isplitl [HZ]; · iexact HZ
  iexists (gfin m c); iexact Hg

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) t.val

/-- The program's result array, and its argument, after the run. -/
def finalA (c : Dev nD) (w : Fin cfg0.W) : Buf (Elt F) ((cfg0.win w).arr.view.loc (c : Thread nD τ)) := (dats m ρ 0 c).arrAt w cfg0.N

set_option maxRecDepth 8000 in
/-- From any memory with every semaphore at zero, every fair run of the program on the sixteen devices ends, with each device's arrays as computed and every
    semaphore at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phiN_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is as it was. -/
theorem finalA_arg (c : Dev nD) : finalA m ρ c (0 : Fin 2) = (s₀ m ρ).mem (win0_0.arr.view.loc (c : Thread nD τ)) :=
  (dats (F := F) m ρ 0 c).arrAt_in (0 : Fin 2) rfl _

/-- Every fair run of the program ends, its argument as it was and every semaphore at zero. -/
theorem run_args : θ_run defs (onTc (τ := τ) (main (F := F))) (s₀ m ρ)
    (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c 0).trans (finalA_arg m ρ c), h.2⟩) (run_main m ρ)

end Cert.ArgmaxProof
-- ==== Proof.Ref.lean ====
/-
The reference program: one device, the column maximum and its row over the whole array, a line of host operations.
-/
module

public import proofs.«01_k».proof.ReferenceIdeal
public import proofs.«01_k».proof.Proof.Gen.ReferenceIdeal
public import Idealize.ShloMosaic.Lib.StableHlo.Run

@[expose] public section

noncomputable section

namespace Cert.ArgmaxProof.Ref

open Cert.ReferenceIdeal Cert.ReferenceIdeal.Gen
open Idealize.ShloMosaic Idealize.ShloMosaic.TcCoe Idealize.ShloMosaic.StableHlo Idealize.SL.Sem

variable {F : FTy → Type} [FloatOps F]

/-- The pairs (maximum, row) by column. -/
def refPair (x : FVec F S65536x1024 .f32) (j : S1024.Idx) : F .f32 × BitVec 32 :=
  Host.argReduce reducer_argmax_f32_i32 x (iotaInDim S65536x1024 32 0) (constant S_ .f32 0xFF800000#32) (constantI S_ 32 0#32) reducesTo_S65536x1024_S1024_d0 h_S_ j

/-- The maximum by column. -/
def refMax (x : FVec F S65536x1024 .f32) : FVec F S1024 .f32 :=
  Host.reduce FloatOps.maximumf x (constant S_ .f32 0xFF800000#32) reducesTo_S65536x1024_S1024_d0 h_S_

/-- A vector as a row, and the result: two rows, the maxima over their rows' numbers. -/
abbrev asRow (v : FVec F S1024 .f32) : FVec F S1x1024 .f32 := broadcastInDim S1x1024 ![1] bcast_S1024_S1x1024_1 v
def refOut (x : FVec F S65536x1024 .f32) : FVec F S2x1024 .f32 :=
  concatenate S2x1024 0 [⟨S1x1024, asRow (refMax x)⟩, ⟨S1x1024, asRow (sitofp .f32 fun j => (refPair x j).2)⟩] concatenates_S1x1024_S1x1024_S2x1024_d0

/-- @main's operations, in order. -/
abbrev ops : List (HloOp τ sig (Elt F)) :=
  [ TRef.nullary main_call0.v0 (iotaInDim S65536x1024 32 0),
    TRef.nullary main_call0.cst (constant S_ .f32 0xFF800000#32),
    TRef.nullary main_call0.c (constantI S_ 32 0#32),
    TRef.quaternary (.of main_arg0) main_call0.v0 main_call0.cst main_call0.c main_call0.v1_0 (fun x y u v j => (Host.argReduce reducer_argmax_f32_i32 x y u v reducesTo_S65536x1024_S1024_d0 h_S_ j).1),
    TRef.quaternary (.of main_arg0) main_call0.v0 main_call0.cst main_call0.c main_call0.v1_1 (fun x y u v j => (Host.argReduce reducer_argmax_f32_i32 x y u v reducesTo_S65536x1024_S1024_d0 h_S_ j).2),
    unary main_v0 main_v1 (sitofp .f32 : (⟨S1024, .i32⟩ : BufTy).Contents (Elt F) → (⟨S1024, .f32⟩ : BufTy).Contents (Elt F)),
    nullary main_cst (constant S_ .f32 0xFF800000#32),
    binary main_arg0 main_cst main_v2 ((fun x v => Host.reduce FloatOps.maximumf x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    unary main_v2 main_v3 (broadcastInDim S1x1024 ![1] bcast_S1024_S1x1024_1 : (⟨S1024, .f32⟩ : BufTy).Contents (Elt F) → (⟨S1x1024, .f32⟩ : BufTy).Contents (Elt F)),
    unary main_v1 main_v4 (broadcastInDim S1x1024 ![1] bcast_S1024_S1x1024_1 : (⟨S1024, .f32⟩ : BufTy).Contents (Elt F) → (⟨S1x1024, .f32⟩ : BufTy).Contents (Elt F)),
    binary main_v3 main_v4 main_v5 ((fun a b => concatenate S2x1024 0 [⟨S1x1024, a⟩, ⟨S1x1024, b⟩] concatenates_S1x1024_S1x1024_S2x1024_d0) : (⟨S1x1024, .f32⟩ : BufTy).Contents (Elt F) → (⟨S1x1024, .f32⟩ : BufTy).Contents (Elt F) → (⟨S2x1024, .f32⟩ : BufTy).Contents (Elt F)) ]

/-- @main is that line. -/
theorem main_eq (c : Dev nD) : main (F := F) c = seq ops := rfl

theorem out_eq (V : Valuation τ sig (Elt F)) : after ops V (main_v5 : DevRef τ sig) = refOut (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub ..,
    binary_bufs_sub .., unary_bufs_sub .., unary_bufs_sub .., binary_bufs_sub ..⟩

/-- Every fair run of the reference ends, its result as computed and its argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v5) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v5).trans (out_eq _), (h c main_arg0).trans (arg0_eq _)⟩)
    (run_seq scopedRefs_eq scopedSems_eq defs main (fun _ => ops) main_eq (fun _ => ops_sub) m ρ)

end Cert.ArgmaxProof.Ref
-- ==== Proof.Lead.lean ====
/-
The greatest entry of a stretch of a column and the first row that holds it: how they come from the parts of the stretch.
-/
module

public import proofs.«01_k».proof.Proof.Geom
public import Idealize.ShloMosaic.PureOps.Ideal.Laws

@[expose] public section

noncomputable section

namespace Cert.ArgmaxProof

open Idealize.ShloMosaic

/-- Of the rows from `lo` on and below `hi`, the greatest entry is `v` and row `i` is the first that holds it. -/
structure Lead (X : ℕ → EReal) (lo hi : ℕ) (v : EReal) (i : ℕ) : Prop where
  ge : lo ≤ i
  lt : i < hi
  val : X i = v
  top : ∀ r, lo ≤ r → r < hi → X r ≤ v
  first : ∀ r, lo ≤ r → r < hi → X r = v → i ≤ r

namespace Lead

variable {X : ℕ → EReal} {lo mid hi i k : ℕ} {v w : EReal}

/-- The entry is determined; -/
theorem val_unique (h : Lead X lo hi v i) (h' : Lead X lo hi w k) : v = w :=
  le_antisymm (h.val ▸ h'.top i h.ge h.lt) (h'.val ▸ h.top k h'.ge h'.lt)

/-- so is the row. -/
theorem row_unique (h : Lead X lo hi v i) (h' : Lead X lo hi w k) : i = k := by
  have e := h.val_unique h'
  exact le_antisymm (h.first k h'.ge h'.lt (h'.val.trans e.symm)) (h'.first i h.ge h.lt (h.val.trans e))

/-- Two stretches one after the other: the later one leads only where its entry is strictly greater. -/
theorem join (h : Lead X lo mid v i) (h' : Lead X mid hi w k) : Lead X lo hi (if v < w then w else v) (if v < w then k else i) := by
  have hm : lo ≤ mid := h.ge.trans h.lt.le
  have hm' : mid ≤ hi := h'.ge.trans h'.lt.le
  by_cases c : v < w
  · rw [if_pos c, if_pos c]
    refine ⟨hm.trans h'.ge, h'.lt, h'.val, fun r h1 h2 => ?_, fun r h1 h2 e => ?_⟩
    · rcases lt_or_ge r mid with hr | hr
      · exact (h.top r h1 hr).trans c.le
      · exact h'.top r hr h2
    · rcases lt_or_ge r mid with hr | hr
      · exact absurd (h.top r h1 hr) (by rw [e]; exact not_le.mpr c)
      · exact h'.first r hr h2 e
  · rw [if_neg c, if_neg c]
    refine ⟨h.ge, h.lt.trans_le hm', h.val, fun r h1 h2 => ?_, fun r h1 h2 e => ?_⟩
    · rcases lt_or_ge r mid with hr | hr
      · exact h.top r h1 hr
      · exact (h'.top r hr h2).trans (not_lt.mp c)
    · rcases lt_or_ge r mid with hr | hr
      · exact h.first r h1 hr e
      · exact h.lt.le.trans hr

/-- A stretch of one row. -/
theorem one (X : ℕ → EReal) (n : ℕ) : Lead X n (n + 1) (X n) n :=
  ⟨le_rfl, n.lt_succ_self, rfl, fun r h1 h2 => by rw [show r = n by omega], fun r h1 _ _ => h1⟩

end Lead

/-- The fold of the maximum from the least value bounds every entry and is one of them. -/
theorem fold_max_spec {n : ℕ} (hn : 0 < n) (f : Fin n → EReal) :
    (∀ k, f k ≤ (Finset.univ : Finset (Fin n)).fold max ⊥ f) ∧ ∃ k, f k = (Finset.univ : Finset (Fin n)).fold max ⊥ f := by
  have hle : ∀ k, f k ≤ (Finset.univ : Finset (Fin n)).fold max ⊥ f := fun k => (Finset.le_fold_max _).mpr (Or.inr ⟨k, Finset.mem_univ k, le_rfl⟩)
  refine ⟨hle, ?_⟩
  rcases (Finset.le_fold_max _).mp (le_refl ((Finset.univ : Finset (Fin n)).fold max ⊥ f)) with h | ⟨k, _, h⟩
  · exact ⟨⟨0, hn⟩, le_antisymm (hle _) (h.trans bot_le)⟩
  · exact ⟨k, le_antisymm (hle k) h⟩

/-- The fold of the minimum from the greatest value is below every entry and is one of them. -/
theorem fold_min_spec {n : ℕ} (hn : 0 < n) (f : Fin n → EReal) :
    (∀ k, (Finset.univ : Finset (Fin n)).fold min ⊤ f ≤ f k) ∧ ∃ k, f k = (Finset.univ : Finset (Fin n)).fold min ⊤ f := by
  have hle : ∀ k, (Finset.univ : Finset (Fin n)).fold min ⊤ f ≤ f k := fun k => (Finset.fold_min_le _).mpr (Or.inr ⟨k, Finset.mem_univ k, le_rfl⟩)
  refine ⟨hle, ?_⟩
  rcases (Finset.fold_min_le _).mp (le_refl ((Finset.univ : Finset (Fin n)).fold min ⊤ f)) with h | ⟨k, _, h⟩
  · exact ⟨⟨0, hn⟩, le_antisymm (le_top.trans h) (hle _)⟩
  · exact ⟨k, le_antisymm h (hle k)⟩

/-- A row's number as a value. -/
abbrev num (i : ℕ) : EReal := ((i : ℝ) : EReal)

/-- Numbers of rows are ordered as the rows are. -/
theorem num_le {i k : ℕ} : num i ≤ num k ↔ i ≤ k := by
  unfold num; rw [EReal.coe_le_coe_iff, Nat.cast_le]

/-- The leaders of the stretches of length `2048` give the whole column's: the greatest of their entries, and the least row among those
that hold it, the others counted as a row past the end. -/
theorem lead_all {X : ℕ → EReal} {n : ℕ} (hn : 0 < n) (V : Fin n → EReal) (I : Fin n → ℕ) (σ : Fin n → ℕ)
    (hl : ∀ k, Lead X (2048 * σ k) (2048 * σ k + 2048) (V k) (I k)) (hlt : ∀ k, σ k < 32) (hs : ∀ q, q < 32 → ∃ k, σ k = q)
    {g w : EReal} (hg : g = (Finset.univ : Finset (Fin n)).fold max ⊥ V)
    (hw : w = (Finset.univ : Finset (Fin n)).fold min ⊤ fun k => if V k = g then num (I k) else num (2 ^ 30)) :
    ∃ i, Lead X 0 65536 g i ∧ w = num i := by
  obtain ⟨hg1, k1, hk1⟩ := fold_max_spec hn V
  rw [← hg] at hg1 hk1
  obtain ⟨hw1, k0, hk0⟩ := fold_min_spec hn fun k => if V k = g then num (I k) else num (2 ^ 30)
  rw [← hw] at hw1 hk0
  have hI : ∀ k, I k < 65536 := fun k => by have := (hl k).lt; have := hlt k; omega
  have h0 : V k0 = g := by
    by_contra hne
    rw [if_neg hne] at hk0
    have := hw1 k1
    rw [if_pos hk1, ← hk0, num_le] at this
    have := hI k1
    omega
  rw [if_pos h0] at hk0
  refine ⟨I k0, ⟨Nat.zero_le _, hI k0, (hl k0).val.trans h0, fun r _ hr => ?_, fun r _ hr e => ?_⟩, hk0.symm⟩
  · obtain ⟨k, hk⟩ := hs (r / 2048) (by omega)
    exact ((hl k).top r (by omega) (by omega)).trans (hg1 k)
  · obtain ⟨k, hk⟩ := hs (r / 2048) (by omega)
    have hv : V k = g := le_antisymm (hg1 k) (e ▸ (hl k).top r (by omega) (by omega))
    have := hw1 k
    rw [if_pos hv, ← hk0, num_le] at this
    exact this.trans ((hl k).first r (by omega) (by omega) (e.trans hv.symm))

/-- A number below the sign bit, read signed, is itself. -/
theorem toInt_ofNat {i : ℕ} (h : i < 2 ^ 31) : (BitVec.ofNat 32 i).toInt = i := by
  rw [BitVec.toInt_eq_toNat_cond, BitVec.toNat_ofNat, Nat.mod_eq_of_lt (by omega), if_pos (by omega)]

/-- A row's number converted to a float is its value. -/
theorem sitofp_num {i : ℕ} (h : i < 2 ^ 31) : (((BitVec.ofNat 32 i).toInt : ℝ) : EReal) = num i := by
  rw [toInt_ofNat h]; simp

/-- The first row of a block with the greatest entry, as the indexed reduction computes it. -/
theorem reduceIndex_spec {n : ℕ} (hn : 0 < n) {t : Shape} {d : Fin 2 → ℕ} (hd : d 0 = n) (h : (⟨2, d⟩ : Shape).Reduces [0] t)
    (x : (⟨2, d⟩ : Shape).Idx → EReal) (j : t.Idx) :
    ∃ k : Fin (d 0), Ideal.reduceIndex .argMax 0 h x j = BitVec.ofNat 32 k.val ∧ (∀ r, x (h.lift j r) ≤ x (h.lift j k)) ∧
      ∀ r, x (h.lift j r) = x (h.lift j k) → k ≤ r := by
  classical
  set ext := (Finset.univ.filter fun i => h.drop i = j).filter fun i => ∀ i' ∈ Finset.univ.filter (fun i => h.drop i = j), ¬ x i < x i' with hext
  have mem : ∀ r, h.lift j r ∈ ext ↔ ∀ r', x (h.lift j r') ≤ x (h.lift j r) := fun r => by
    rw [hext, Finset.mem_filter]
    refine ⟨fun hr r' => not_lt.mp (hr.2 _ (Finset.mem_filter.mpr ⟨Finset.mem_univ _, h.drop_lift j r'⟩)), fun hr => ⟨Finset.mem_filter.mpr ⟨Finset.mem_univ _, h.drop_lift j r⟩, fun i' hi' => ?_⟩⟩
    obtain ⟨_, hi'⟩ := Finset.mem_filter.mp hi'
    rw [← h.lift_drop i', hi']
    exact not_lt.mpr (hr _)
  have crd : ∀ r, (h.lift j r 0).val = r.val := fun r => by
    rw [h.lift_val]; rfl
  have ex : ∃ r : Fin (d 0), ∀ r', x (h.lift j r') ≤ x (h.lift j r) := by
    obtain ⟨h1, k, hk⟩ := fold_max_spec (hd ▸ hn : 0 < d 0) fun r => x (h.lift j r)
    exact ⟨k, fun r => (h1 r).trans hk.ge⟩
  obtain ⟨r0, hr0⟩ := ex
  obtain ⟨a, ha⟩ := Finset.min_of_mem (Finset.mem_image_of_mem (fun i : (⟨2, d⟩ : Shape).Idx => (i 0).val) ((mem r0).mpr hr0))
  obtain ⟨i, hi, hia⟩ := Finset.mem_image.mp (Finset.mem_of_min ha)
  have hdrop : h.drop i = j := (Finset.mem_filter.mp (Finset.mem_filter.mp hi).1).2
  have hli : h.lift j (i 0) = i := by rw [← hdrop]; exact h.lift_drop i
  have hmx := (mem (i 0)).mp (hli ▸ hi)
  refine ⟨i 0, ?_, hmx, fun r hr => ?_⟩
  · have e : Ideal.reduceIndex .argMax 0 h x j = BitVec.ofNat 32 (Option.getD (α := ℕ) (Finset.image (fun i : (⟨2, d⟩ : Shape).Idx => (i 0).val) ext).min 0) := by
      rw [hext]
      unfold Ideal.reduceIndex
      simp only [if_true]
    rw [e, ha, hia]
    rfl
  · have := Finset.min_le_of_eq (Finset.mem_image_of_mem (fun i : (⟨2, d⟩ : Shape).Idx => (i 0).val) ((mem r).mpr fun r' => (hmx r').trans hr.ge)) ha
    have hc := crd r
    show (i 0).val ≤ r.val
    simp only at this hia
    omega

end Cert.ArgmaxProof
-- ==== Proof.Value.lean ====
/-
What the program on the sixteen devices computes, by column, at exact arithmetic: the greatest entry of the whole array and its first row.
-/
module

public import proofs.«01_k».proof.Proof.Proto
public import proofs.«01_k».proof.Proof.Lead
public import Idealize.ShloMosaic.Lib.Pipeline.Value

@[expose] public section

noncomputable section

namespace Cert.ArgmaxProof

open Cert.KernelIdeal Cert.KernelIdeal.Gen

open Idealize.ShloMosaic
open Idealize.ShloMosaic.TcCoe
open Idealize.ShloMosaic.ValueIdx
open Idealize.ShloMosaic.Ideal

/-! ## The constants -/

/-- The word that starts a maximum is −∞, -/
theorem ofBits_bot : Ideal.ofBits .f32 0xFF800000#32 = ⊥ := by simp [Ideal.ofBits, Ideal.ieee]
/-- the word that starts a minimum is +∞, -/
theorem ofBits_top : Ideal.ofBits .f32 0x7F800000#32 = ⊤ := by simp [Ideal.ofBits, Ideal.ieee]
/-- and the row of a losing candidate is 2^30. -/
theorem ofBits_far : Ideal.ofBits .f32 0x4E800000#32 = num (2 ^ 30) := by
  unfold Ideal.ofBits Ideal.ieee num
  simp only [show (BitVec.extractLsb' (8 + 23) 1 (0x4E800000#32 : BitVec 32) == 1#1) = false by decide,
    show (BitVec.extractLsb' 23 8 (0x4E800000#32 : BitVec 32)).toNat = 157 by decide, show (BitVec.extractLsb' 0 23 (0x4E800000#32 : BitVec 32)).toNat = 0 by decide]
  norm_num

/-! ## A device's rows -/

/-- The whole array. -/
abbrev Whole : Type := (⟨2, ![65536, 1024]⟩ : Shape).Idx → EReal

/-- A column of the whole array, by row number. -/
def colOf (x : Whole) (j : Fin 1024) (r : ℕ) : EReal := if h : r < 65536 then x (ix2 ⟨r, h⟩ j) else ⊥

variable (m : (ℓ : Loc nD τ sig) → Buf (Elt Ideal) ℓ) (x : Whole)

/-- Each device holds its 4096 rows of the whole array. -/
def Cut : Prop := ∀ c : Dev nD, m ((c : Thread nD τ).loc main_arg0) = Layout.block ⟨2, ![4096, 1024]⟩ ⟨2, ![65536, 1024]⟩ 0 16 c x

/-- Grid point `n` reads the block of rows `n`, all columns. -/
theorem index_in : ∀ n : Fin 8, win0_0.index (gpt n.val) (0 : Fin 2) = n.val ∧ win0_0.index (gpt n.val) (1 : Fin 2) = 0 := by decide +kernel

/-- An entry of a block is the entry of the whole array at the row's number. -/
theorem xblk_at (hm : Cut m x) (c : Dev nD) (n : Fin 8) (k : Fin 512) (j : Fin 1024) :
    xblk m c n.val (ix2 k j) = colOf x j (4096 * c.val + 512 * n.val + k.val) := by
  have hc : c.val < 16 := c.isLt
  have hlt : 4096 * c.val + 512 * n.val + k.val < 65536 := by omega
  obtain ⟨e0, e1⟩ := index_in n
  unfold xblk colOf
  rw [hm c, dif_pos hlt]
  show x _ = x _
  refine congrArg x (funext fun a => Fin.ext ?_)
  match a with
  | ⟨0, _⟩ =>
    show c.val * 4096 + (win0_0.index (gpt n.val) (0 : Fin 2) * 512 + 1 * k.val) = 4096 * c.val + 512 * n.val + k.val
    omega
  | ⟨1, _⟩ =>
    show win0_0.index (gpt n.val) (1 : Fin 2) * 1024 + 1 * j.val = j.val
    omega

/-- The entry of column `j` an axis-0 reduction reads at row `k`. -/
theorem lift_at {a n : ℕ} (h : (⟨2, ![a, n]⟩ : Shape).Reduces [0] ⟨1, ![n]⟩) (j : Fin n) (k : Fin a) : h.lift (ix1 j) k = ix2 k j := by
  funext b
  match b with
  | ⟨0, _⟩ => exact Fin.ext rfl
  | ⟨1, _⟩ => exact Fin.ext rfl

/-- The loaded block is the block. -/
theorem pay6_eq (v : Vec Ideal S512x1024 .f32) : k0_pay6 v = v := by
  funext i; exact shapeCast_apply v _ i i rfl

/-- The number of a block's first row, as the program computes it. -/
theorem base_eq : ∀ (c : Dev nD) (n : Fin 8),
    Scalar.addi (Scalar.muli (Scalar.remsi (Scalar.divsi (Dev.word c) 1#32) 16#32) 4096#32) (Scalar.muli (BitVec.ofNat 32 (grid0.coords (gpt n.val) 0).val) 512#32)
      = BitVec.ofNat 32 (4096 * c.val + 512 * n.val) := by decide +kernel

/-- What a block gives: its leader. -/
theorem block_lead (hm : Cut m x) (c : Dev nD) (n : Fin 8) (j : Fin 1024) :
    ∃ i, Lead (colOf x j) (4096 * c.val + 512 * n.val) (4096 * c.val + 512 * n.val + 512) (bmax m c n.val (ix1 j)) i ∧ bidx m c n.val (ix1 j) = num i := by
  have hc : c.val < 16 := c.isLt
  have hl : ∀ k : Fin 512, xblk m c n.val (reduces_S512x1024_S1024.lift (ix1 j) k) = colOf x j (4096 * c.val + 512 * n.val + k.val) := fun k => by
    rw [lift_at reduces_S512x1024_S1024 j k]
    exact xblk_at m x hm c n k j
  obtain ⟨k, hk, hk1, hk2⟩ := reduceIndex_spec (n := 512) (by decide) rfl reduces_S512x1024_S1024 (xblk m c n.val) (ix1 j)
  have hmax : bmax m c n.val (ix1 j) = colOf x j (4096 * c.val + 512 * n.val + k.val) := by
    have e : bmax m c n.val (ix1 j) = (Finset.univ : Finset (Fin 512)).fold max ⊥ fun k => xblk m c n.val (reduces_S512x1024_S1024.lift (ix1 j) k) := by
      unfold bmax k0_pay7
      rw [pay6_eq]
      refine (multiReduction_maximumf_single _ _ _ _ _ _).trans ?_
      rw [ofBits_def, ofBits_bot]
      rfl
    obtain ⟨h1, k', h2⟩ := fold_max_spec (n := 512) (by decide) fun k => xblk m c n.val (reduces_S512x1024_S1024.lift (ix1 j) k)
    rw [← hl k, e]
    exact le_antisymm (h2 ▸ hk1 k') (h1 k)
  have hk' : k.val < 512 := k.isLt
  refine ⟨4096 * c.val + 512 * n.val + k.val, ⟨by omega, by omega, hmax.symm, fun r h1 h2 => ?_, fun r h1 h2 e => ?_⟩, ?_⟩
  · have h3 : colOf x j (4096 * c.val + 512 * n.val + (r - (4096 * c.val + 512 * n.val))) ≤ colOf x j (4096 * c.val + 512 * n.val + k.val) :=
      (hl ⟨r - (4096 * c.val + 512 * n.val), by omega⟩).symm.trans_le ((hk1 _).trans (hl k).le)
    rw [show 4096 * c.val + 512 * n.val + (r - (4096 * c.val + 512 * n.val)) = r by omega] at h3
    exact h3.trans hmax.ge
  · have h3 : k.val ≤ r - (4096 * c.val + 512 * n.val) := Fin.le_def.mp (hk2 (⟨r - (4096 * c.val + 512 * n.val), by omega⟩ : Fin 512) ((hl _).trans (Eq.trans (by
      show colOf x j (4096 * c.val + 512 * n.val + (r - (4096 * c.val + 512 * n.val))) = _
      rw [show 4096 * c.val + 512 * n.val + (r - (4096 * c.val + 512 * n.val)) = r by omega]
      exact e.trans hmax) (hl k).symm)))
    omega
  · unfold bidx k0_pay8
    rw [pay6_eq]
    show (((Scalar.addi (Scalar.muli (Scalar.remsi (Scalar.divsi (Dev.word c) 1#32) 16#32) 4096#32) (Scalar.muli (BitVec.ofNat 32 (grid0.coords (gpt n.val) 0).val) 512#32)
      + Ideal.reduceIndex .argMax 0 reduces_S512x1024_S1024 (xblk m c n.val) (ix1 j) : BitVec 32).toInt : ℝ) : EReal) = _
    rw [base_eq, hk, ← BitVec.ofNat_add, sitofp_num (by omega)]

/-! ## The candidates -/

/-- A row written with three leading unit axes, read at a column; -/
theorem cast_at4 (v : FVec Ideal S1024 .f32) (h : S1024.ShapeCasts S1x1x1x1024) (j : Fin 1024) : shapeCast S1x1x1x1024 v h (at4 j) = v (ix1 j) :=
  shapeCast_apply v h _ _ (by rw [Shape.rowMajor_val_one, Shape.rowMajor_val_four]; simp)

/-- and the way back. -/
theorem cast_of4 (v : FVec Ideal S1x1x1x1024 .f32) (h : S1x1x1x1024.ShapeCasts S1024) (j : Fin 1024) : shapeCast S1024 v h (ix1 j) = v (at4 j) :=
  shapeCast_apply v h _ _ (by rw [Shape.rowMajor_val_one, Shape.rowMajor_val_four]; simp)

/-- A choice by a strict comparison of numbers. -/
theorem select_gt (a b : EReal) {β : Type} (u v : β) : Scalar.select (Ideal.cmp .ogt a b) u v = if b < a then u else v := by
  unfold Scalar.select Ideal.cmp
  by_cases h : b < a <;> simp [h]

/-- What is stored for a segment's first block, -/
theorem pay9_at (v : FVec Ideal S1024 .f32) (j : Fin 1024) : k0_pay9 v (at4 j) = v (ix1 j) := cast_at4 v _ j
/-- for its rows, -/
theorem pay10_at (v : FVec Ideal S1024 .f32) (j : Fin 1024) : k0_pay10 v (at4 j) = v (ix1 j) := cast_at4 v _ j

/-- and the maxima loaded for a later block. -/
theorem pay11_at (u : FVec Ideal S1x1x1x1024 .f32) (j : Fin 1024) : k0_pay11 u (ix1 j) = u (at4 j) := cast_of4 u _ j

/-- and for a later one. -/
theorem pay13_at (v : FVec Ideal S1024 .f32) (u : FVec Ideal S1x1x1x1024 .f32) (j : Fin 1024) :
    k0_pay13 v u (at4 j) = if u (at4 j) < v (ix1 j) then v (ix1 j) else u (at4 j) := by
  unfold k0_pay13
  refine (cast_at4 _ _ j).trans ?_
  show Scalar.select (Ideal.cmp .ogt (v (ix1 j)) (k0_pay11 (F := Ideal) u (ix1 j))) (v (ix1 j)) (k0_pay11 u (ix1 j)) = _
  rw [pay11_at u j]
  exact select_gt _ _ _ _
/-- The rows stored for a later block: the block's row where its maximum is greater, the old row elsewhere. -/
theorem pay14_at (v i : FVec Ideal S1024 .f32) (u w : FVec Ideal S1x1x1x1024 .f32) (j : Fin 1024) :
    k0_pay14 v i u w (at4 j) = if u (at4 j) < v (ix1 j) then i (ix1 j) else w (at4 j) := by
  unfold k0_pay14
  refine (cast_at4 _ _ j).trans ?_
  show Scalar.select (Ideal.cmp .ogt (v (ix1 j)) (k0_pay11 (F := Ideal) u (ix1 j))) (i (ix1 j)) (shapeCast S1024 w shapeCasts_S1x1x1x1024_S1024 (ix1 j)) = _
  rw [pay11_at u j, cast_of4]
  exact select_gt _ _ _ _

/-- The candidate after a segment's first block; -/
theorem cand_at_init (c : Dev nD) (n : ℕ) (h : n % 4 = 0) (j : Fin 1024) :
    (cand m c n).1 (at4 j) = bmax m c n (ix1 j) ∧ (cand m c n).2 (at4 j) = bidx m c n (ix1 j) := by
  have e := cand_init m c n h
  generalize cand m c n = p at e ⊢
  generalize bmax m c n = v at e ⊢
  generalize bidx m c n = w at e ⊢
  subst e
  exact ⟨pay9_at v j, pay10_at w j⟩

/-- and after a later one: the block's leader where it is strictly greater. -/
theorem cand_at_comb (c : Dev nD) (n : ℕ) (h : ¬ (n + 1) % 4 = 0) (j : Fin 1024) :
    (cand m c (n + 1)).1 (at4 j) = (if (cand m c n).1 (at4 j) < bmax m c (n + 1) (ix1 j) then bmax m c (n + 1) (ix1 j) else (cand m c n).1 (at4 j)) ∧
    (cand m c (n + 1)).2 (at4 j) = if (cand m c n).1 (at4 j) < bmax m c (n + 1) (ix1 j) then bidx m c (n + 1) (ix1 j) else (cand m c n).2 (at4 j) := by
  have e := cand_comb m c n h
  generalize cand m c (n + 1) = p at e ⊢
  generalize cand m c n = u at e ⊢
  generalize bmax m c (n + 1) = v at e ⊢
  generalize bidx m c (n + 1) = w at e ⊢
  subst e
  exact ⟨pay13_at v u.1 j, pay14_at v w u.1 u.2 j⟩

/-- The candidate after block `4 s + q` leads the segment's rows so far. -/
theorem cand_lead (hm : Cut m x) (c : Dev nD) (s : Fin 2) (j : Fin 1024) : ∀ q : ℕ, q < 4 →
    ∃ i, Lead (colOf x j) (4096 * c.val + 2048 * s.val) (4096 * c.val + 2048 * s.val + 512 * (q + 1)) ((cand m c (4 * s.val + q)).1 (at4 j)) i
      ∧ (cand m c (4 * s.val + q)).2 (at4 j) = num i
  | 0, _ => by
    obtain ⟨i, h, e⟩ := block_lead m x hm c ⟨4 * s.val, by omega⟩ j
    obtain ⟨h1, h2⟩ := cand_at_init m c (4 * s.val) (by omega) j
    refine ⟨i, ?_, h2.trans e⟩
    rw [show (cand m c (4 * s.val + 0)).1 (at4 j) = _ from h1]
    simpa only [show 512 * (4 * s.val) = 2048 * s.val by omega] using h
  | q + 1, hq => by
    obtain ⟨i, h, e⟩ := cand_lead hm c s j q (by omega)
    obtain ⟨k, h', e'⟩ := block_lead m x hm c ⟨4 * s.val + q + 1, by omega⟩ j
    obtain ⟨h1, h2⟩ := cand_at_comb m c (4 * s.val + q) (by omega) j
    simp only [show 4096 * c.val + 512 * (4 * s.val + q + 1) = 4096 * c.val + 2048 * s.val + 512 * (q + 1) by omega] at h'
    refine ⟨if (cand m c (4 * s.val + q)).1 (at4 j) < bmax m c (4 * s.val + q + 1) (ix1 j) then k else i, ?_, ?_⟩
    · rw [← add_assoc, h1, show 512 * (q + 1 + 1) = 512 * (q + 1) + 512 by omega, ← add_assoc]
      exact h.join h'
    · rw [← add_assoc, h2, e, e', apply_ite num]

/-! ## The exchange and the result -/

/-- A load of one of the two rows of every slot. -/
theorem load_at {off : Fin 4 → ℕ} (inb : ∀ a, off a + S2x16x1x1024.size a ≤ S2x16x2x1024.size a) {r : Fin 2} (h : off = ![0, 0, r.val, 0])
    (f : GBuf Ideal) (s : Fin 2) (d : Fin 16) (j : Fin 1024) :
    gM.view.readAt (Elt Ideal) (Rect.unit (s := S2x16x2x1024) off S2x16x1x1024.size inb).toLoadRect f (ix4 s d 0 j) = f (ix4 s d r j) := by
  subst h
  rw [View.readAt_apply]
  refine congrArg f (funext fun a => Fin.ext ?_)
  match a with
  | ⟨0, _⟩ => show 0 + 1 * s.val = s.val; omega
  | ⟨1, _⟩ => show 0 + 1 * d.val = d.val; omega
  | ⟨2, _⟩ => show r.val + 1 * 0 = r.val; omega
  | ⟨3, _⟩ => show 0 + 1 * j.val = j.val; omega

/-- The slot of the `k`-th of the thirty-two candidates: its segment and its distance. -/
abbrev sOf (k : Fin 32) : Fin 2 := ⟨k.val / 16, by omega⟩
/-- The distance of candidate `k`: its slot in the segment. -/
abbrev dOf (k : Fin 32) : Fin 16 := ⟨k.val % 16, by omega⟩

/-- The slots' rows as a matrix of thirty-two rows. -/
theorem flat_at (v : Vec Ideal S2x16x1x1024 .f32) (k : Fin 32) (j : Fin 1024) :
    shapeCast S32x1024 (shapeCast S2x16x1024 v shapeCasts_S2x16x1x1024_S2x16x1024) shapeCasts_S2x16x1024_S32x1024 (ix2 k j) = v (ix4 (sOf k) (dOf k) 0 j) := by
  rw [shapeCast_apply _ _ (ix2 k j) (ix3 (sOf k) (dOf k) j) (by
      rw [Shape.rowMajor_val_two, Shape.rowMajor_val_three]
      show (k.val / 16 * 16 + k.val % 16) * 1024 + j.val = k.val * 1024 + j.val
      omega)]
  exact shapeCast_apply _ _ _ _ (by
      rw [Shape.rowMajor_val_four, Shape.rowMajor_val_three]
      show ((k.val / 16 * 16 + k.val % 16) * 1 + 0) * 1024 + j.val = (k.val / 16 * 16 + k.val % 16) * 1024 + j.val
      omega)

/-- The greatest of the candidates; -/
theorem pay2_at (v : Vec Ideal S2x16x1x1024 .f32) (j : Fin 1024) :
    k0_pay2 v (ix1 j) = (Finset.univ : Finset (Fin 32)).fold max ⊥ fun k => v (ix4 (sOf k) (dOf k) 0 j) := by
  unfold k0_pay2
  refine (multiReduction_maximumf_single _ _ _ _ _ _).trans ?_
  rw [ofBits_def, ofBits_bot]
  refine congrArg (Finset.fold max ⊥ · Finset.univ) (funext fun (k : Fin 32) => ?_)
  show k0_pay1 v (reduces_S32x1024_S1024.lift (ix1 j) k) = _
  rw [lift_at reduces_S32x1024_S1024 j k]
  exact flat_at v k j

/-- A vector as a one-row array, read at a column. -/
theorem row_of (v : FVec Ideal S1024 .f32) (j : Fin 1024) : shapeCast S1x1024 v shapeCasts_S1024_S1x1024 (ix2 0 j) = v (ix1 j) :=
  shapeCast_apply v _ _ _ (by rw [Shape.rowMajor_val_one, Shape.rowMajor_val_two]; simp)

/-- A choice by equality of numbers. -/
theorem select_eq (a b : EReal) {β : Type} (u v : β) : Scalar.select (Ideal.cmp .oeq a b) u v = if a = b then u else v := by
  unfold Scalar.select Ideal.cmp
  by_cases h : a = b <;> simp [h]

/-- and the least row of those equal to it, the others' counted past the end. -/
theorem pay4_at (v w : Vec Ideal S2x16x1x1024 .f32) (j : Fin 1024) :
    k0_pay4 v w (ix1 j) = (Finset.univ : Finset (Fin 32)).fold min ⊤ fun k =>
      if v (ix4 (sOf k) (dOf k) 0 j) = k0_pay2 v (ix1 j) then w (ix4 (sOf k) (dOf k) 0 j) else num (2 ^ 30) := by
  unfold k0_pay4
  refine (multiReduction_minimumf_eq_fold _ _ _ _ _ _).trans ?_
  refine (reduces_S32x1024_S1024.fold_filter_drop_single _ _ _ _).trans ?_
  rw [ofBits_def, ofBits_top]
  refine congrArg (Finset.fold min ⊤ · Finset.univ) (funext fun (k : Fin 32) => ?_)
  have e : reduces_S32x1024_S1024.lift (ix1 j) k = ix2 k j := lift_at reduces_S32x1024_S1024 j k
  show Scalar.select (Ideal.cmp .oeq (k0_pay1 v (reduces_S32x1024_S1024.lift (ix1 j) k))
    (broadcastTo S32x1024 (shapeCast S1x1024 (k0_pay2 v) shapeCasts_S1024_S1x1024) broadcasts_S1x1024_S32x1024 (reduces_S32x1024_S1024.lift (ix1 j) k)))
    (shapeCast S32x1024 (shapeCast S2x16x1024 w shapeCasts_S2x16x1x1024_S2x16x1024) shapeCasts_S2x16x1024_S32x1024 (reduces_S32x1024_S1024.lift (ix1 j) k))
    (Ideal.ofBits .f32 0x4E800000#32) = _
  rw [select_eq, ofBits_far, e, flat_at, show k0_pay1 v (ix2 k j) = _ from flat_at v k j,
    broadcastTo_apply _ _ (ix2 k j) (ix2 0 j) (fun a => by fin_cases a <;> rfl), row_of]

variable {m x} in
/-- The stretch of rows the `k`-th candidate of device `c` leads. -/
def stretch (c : Dev nD) (k : Fin 32) : ℕ := 2 * (dn c (dOf k)).val + (sOf k).val

/-- Every candidate is of one of the thirty-two stretches of rows, -/
theorem stretch_lt : ∀ (c : Dev nD) (k : Fin 32), stretch c k < 32 := by decide +kernel
/-- and every stretch has its candidate. -/
theorem stretch_onto : ∀ (c : Dev nD) (q : Fin 32), ∃ k, stretch c k = q.val := by decide +kernel

/-- The stored maxima, column by column; -/
theorem pay3_at (v : Vec Ideal S2x16x1x1024 .f32) (j : Fin 1024) : k0_pay3 v (ix2 0 j) = k0_pay2 v (ix1 j) := row_of (k0_pay2 v) j
/-- and the stored rows. -/
theorem pay5_at (v : FVec Ideal S1024 .f32) (j : Fin 1024) : k0_pay5 v (ix2 0 j) = v (ix1 j) := row_of v j

/-- Both rows of the result: the whole column's greatest entry, and its first row. -/
theorem out_lead (hm : Cut m x) (c : Dev nD) (j : Fin 1024) :
    ∃ i, Lead (colOf x j) 0 65536 (outAt m c (ix2 0 j)) i ∧ outAt m c (ix2 1 j) = num i := by
  have hc : ∀ k : Fin 32, ∃ i, Lead (colOf x j) (2048 * stretch c k) (2048 * stretch c k + 2048) (gfin m c (ix4 (sOf k) (dOf k) 0 j)) i
      ∧ gfin m c (ix4 (sOf k) (dOf k) 1 j) = num i := fun k => by
    obtain ⟨i, h, e⟩ := cand_lead m x hm (dn c (dOf k)) (sOf k) j 3 (by decide)
    refine ⟨i, ?_, e⟩
    have e1 : 4096 * (dn c (dOf k)).val + 2048 * (sOf k).val = 2048 * stretch c k := by unfold stretch; omega
    rw [e1] at h
    exact h
  choose I hI hI' using hc
  set V := gM.view.readAt (Elt Ideal) (Rect.unit (s := S2x16x2x1024) ![0, 0, 0, 0] S2x16x1x1024.size inb_S2x16x2x1024_S2x16x1x1024_0_0_0_0).toLoadRect (gfin m c) with hV
  set W := gM.view.readAt (Elt Ideal) (Rect.unit (s := S2x16x2x1024) ![0, 0, 1, 0] S2x16x1x1024.size inb_S2x16x2x1024_S2x16x1x1024_0_0_1_0).toLoadRect (gfin m c) with hW
  have hVk : ∀ k, V (ix4 (sOf k) (dOf k) 0 j) = gfin m c (ix4 (sOf k) (dOf k) 0 j) := fun k => load_at _ (r := 0) rfl _ _ _ _
  have hWk : ∀ k, W (ix4 (sOf k) (dOf k) 0 j) = gfin m c (ix4 (sOf k) (dOf k) 1 j) := fun k => load_at _ (r := 1) rfl _ _ _ _
  have e0 : outAt m c (ix2 0 j) = k0_pay2 V (ix1 j) := by
    show k0_pay3 V (ix2 0 j) = _
    exact pay3_at _ j
  have e1 : outAt m c (ix2 1 j) = k0_pay4 V W (ix1 j) := by
    show k0_pay5 (k0_pay4 V W) (ix2 0 j) = _
    exact pay5_at _ j
  rw [e0, e1]
  refine lead_all (by decide) (fun k => gfin m c (ix4 (sOf k) (dOf k) 0 j)) I (stretch c) hI (stretch_lt c) (fun q hq => stretch_onto c ⟨q, hq⟩) ?_ ?_
  · rw [pay2_at]
    simp only [hVk]
  · rw [pay4_at]
    simp only [hVk, hWk, hI']

end Cert.ArgmaxProof
-- ==== Proof.Equal.lean ====
/-
The reference by column, and the equality of the two programs' results.
-/
module

public import proofs.«01_k».proof.Proof.Value
public import proofs.«01_k».proof.Proof.Run
public import proofs.«01_k».proof.Proof.Ref

@[expose] public section

noncomputable section

namespace Cert.ArgmaxProof

open Idealize.ShloMosaic
open Idealize.ShloMosaic.TcCoe
open Idealize.ShloMosaic.ValueIdx
open Idealize.ShloMosaic.Ideal

/-! ## The reference -/

section Reference

open Cert.ReferenceIdeal Cert.ReferenceIdeal.Gen Cert.ArgmaxProof.Ref

/-- The reference's step on two pairs of different rows: the greater entry, the earlier pair at equal ones. -/
theorem reducer_two (v w : EReal) {i k : ℕ} (hik : i < k) (hk : k < 2 ^ 31) :
    reducer_argmax_f32_i32 (F := Ideal) (v, BitVec.ofNat 32 i) (w, BitVec.ofNat 32 k) = (if v < w then w else v, BitVec.ofNat 32 (if v < w then k else i)) := by
  have hs : IntOp.cmpi .slt (BitVec.ofNat 32 i) (BitVec.ofNat 32 k) = 1#1 := by
    show BitVec.ofBool ((BitVec.ofNat 32 i).slt (BitVec.ofNat 32 k)) = 1#1
    rw [BitVec.slt_eq_decide, toInt_ofNat (by omega), toInt_ofNat hk, decide_eq_true (by exact_mod_cast hik)]
    rfl
  have hu : Ideal.cmp .une v v = 0#1 := by simp [Ideal.cmp]
  unfold reducer_argmax_f32_i32
  simp only
  rw [hs]
  show (Scalar.select (IntOp.ori (Ideal.cmp .ogt v w) (Ideal.cmp .une v v)) v w,
    Scalar.select (IntOp.ori (IntOp.ori (Ideal.cmp .ogt v w) (Ideal.cmp .une v v)) (IntOp.andi (Ideal.cmp .oeq v w) 1#1)) _ _) = _
  rw [hu]
  rcases lt_trichotomy v w with h | h | h
  · have h1 : Ideal.cmp .ogt v w = 0#1 := by
      show BitVec.ofBool (decide (w < v)) = 0#1
      rw [decide_eq_false h.not_gt]
      rfl
    have h2 : Ideal.cmp .oeq v w = 0#1 := by simp [Ideal.cmp, h.ne]
    rw [h1, h2, if_pos h, if_pos h]
    rfl
  · subst h
    have h1 : Ideal.cmp .ogt v v = 0#1 := by simp [Ideal.cmp]
    have h2 : Ideal.cmp .oeq v v = 1#1 := by simp [Ideal.cmp]
    rw [h1, h2, if_neg (lt_irrefl v), if_neg (lt_irrefl v)]
    rfl
  · have h1 : Ideal.cmp .ogt v w = 1#1 := by simp [Ideal.cmp, h]
    have h2 : Ideal.cmp .oeq v w = 0#1 := by simp [Ideal.cmp, h.ne']
    rw [h1, h2, if_neg h.not_gt, if_neg h.not_gt]
    rfl

/-- The first step, from the initial pair. -/
theorem reducer_first (w : EReal) : reducer_argmax_f32_i32 (F := Ideal) (⊥, 0#32) (w, BitVec.ofNat 32 0) = (w, BitVec.ofNat 32 0) := by
  have h1 : Ideal.cmp .ogt ⊥ w = 0#1 := by simp [Ideal.cmp]
  have hu : Ideal.cmp .une (⊥ : EReal) ⊥ = 0#1 := by simp [Ideal.cmp]
  unfold reducer_argmax_f32_i32
  simp only
  show (Scalar.select (IntOp.ori (Ideal.cmp .ogt ⊥ w) (Ideal.cmp .une (⊥ : EReal) ⊥)) ⊥ w,
    Scalar.select (IntOp.ori (IntOp.ori (Ideal.cmp .ogt ⊥ w) (Ideal.cmp .une (⊥ : EReal) ⊥)) _) (0#32) (BitVec.ofNat 32 0)) = _
  rw [h1, hu]
  exact Prod.ext rfl (ite_self _)

/-- The folds down a column, of the maximum and of the pairs, lead the rows so far. -/
theorem fold_lead (X : ℕ → EReal) : ∀ n : ℕ, n < 65536 →
    ∃ i, Lead X 0 (n + 1) ((List.range (n + 1)).foldl (fun a r => max a (X r)) ⊥) i ∧
      (List.range (n + 1)).foldl (fun a r => reducer_argmax_f32_i32 (F := Ideal) a (X r, BitVec.ofNat 32 r)) (⊥, 0#32)
        = ((List.range (n + 1)).foldl (fun a r => max a (X r)) ⊥, BitVec.ofNat 32 i)
  | 0, _ => by
    refine ⟨0, ?_, ?_⟩
    · show Lead X 0 1 (max ⊥ (X 0)) 0
      rw [max_eq_right bot_le]
      exact Lead.one X 0
    · show reducer_argmax_f32_i32 (F := Ideal) (⊥, 0#32) (X 0, BitVec.ofNat 32 0) = (max ⊥ (X 0), BitVec.ofNat 32 0)
      rw [reducer_first, max_eq_right bot_le]
  | n + 1, hn => by
    obtain ⟨i, h, e⟩ := fold_lead X n (by omega)
    have hv : ∀ a b : EReal, max a b = if a < b then b else a := fun a b => by
      rcases lt_or_ge a b with hab | hab
      · rw [if_pos hab, max_eq_right hab.le]
      · rw [if_neg (not_lt.mpr hab), max_eq_left hab]
    have hj := h.join (Lead.one X (n + 1))
    rw [List.range_succ, List.foldl_append, List.foldl_append, e]
    generalize (List.range (n + 1)).foldl (fun a r => max a (X r)) ⊥ = v at h hj ⊢
    simp only [List.foldl_cons, List.foldl_nil]
    rw [reducer_two _ _ h.lt (by omega), hv]
    exact ⟨_, hj, rfl⟩

/-- A fold over the rows as a fold over their numbers. -/
theorem foldl_rows {α : Type} {n : ℕ} (f : α → ℕ → α) (z : α) : (List.finRange n).foldl (fun a r => f a r.val) z = (List.range n).foldl f z := by
  rw [← List.map_coe_finRange_eq_range, List.foldl_map]

/-- The reference reduces the rows away. -/
theorem reducesRef : S65536x1024.Reduces [0] S1024 := by decide

/-- The maxima by column: the fold of the maximum over the rows. -/
theorem refMax_at (x : Whole) (j : Fin 1024) : refMax (F := Ideal) x (ix1 j) = (List.range 65536).foldl (fun a r => max a (colOf x j r)) ⊥ := by
  have e : refMax (F := Ideal) x = reduceFold reducesRef (FloatOps.maximumf (F := Ideal) (φ := .f32)) (Ideal.ofBits .f32 0xFF800000#32) x := rfl
  rw [e, reduceFold_rows, ofBits_bot, ← foldl_rows]
  refine congrArg (fun f => List.foldl f ⊥ (List.finRange 65536)) (funext fun a => funext fun r => ?_)
  show max a (x _) = max a (colOf x j r.val)
  unfold colOf
  rw [dif_pos (show r.val < 65536 from r.isLt)]
  refine congrArg (fun i => max a (x i)) (funext fun b => ?_)
  match b with
  | ⟨0, _⟩ => rfl
  | ⟨1, _⟩ => rfl

/-- The pairs by column: the fold of the reference's step. -/
theorem refPair_at (x : Whole) (j : Fin 1024) :
    refPair (F := Ideal) x (ix1 j) = (List.range 65536).foldl (fun a r => reducer_argmax_f32_i32 (F := Ideal) a (colOf x j r, BitVec.ofNat 32 r)) (⊥, 0#32) := by
  have e : refPair (F := Ideal) x = reduceFold reducesRef (reducer_argmax_f32_i32 (F := Ideal)) (Ideal.ofBits .f32 0xFF800000#32, 0#32)
      (fun i => (x i, iotaInDim S65536x1024 32 0 i)) := by
    funext i
    unfold refPair
    rw [argReduce_eq_reduce2]
    rfl
  rw [e, reduceFold_rows, ofBits_bot, ← foldl_rows]
  refine congrArg (fun f => List.foldl f (⊥, 0#32) (List.finRange 65536)) (funext fun a => funext fun r => ?_)
  show reducer_argmax_f32_i32 (F := Ideal) a (x _, BitVec.ofNat 32 r.val) = reducer_argmax_f32_i32 (F := Ideal) a (colOf x j r.val, BitVec.ofNat 32 r.val)
  unfold colOf
  rw [dif_pos (show r.val < 65536 from r.isLt)]
  refine congrArg (fun i => reducer_argmax_f32_i32 (F := Ideal) a (x i, BitVec.ofNat 32 r.val)) (funext fun b => ?_)
  match b with
  | ⟨0, _⟩ => rfl
  | ⟨1, _⟩ => rfl

/-- A vector as a one-row array, read at a column. -/
theorem asRow_at (v : FVec Ideal S1024 .f32) (j : Fin 1024) : asRow v (ix2 0 j) = v (ix1 j) := by
  show v _ = v _
  refine congrArg v (funext fun b => ?_)
  match b with
  | ⟨0, _⟩ => rfl

/-- Two rows one over the other, read at either. -/
theorem rows_at0 (u v : FVec Ideal S1x1024 .f32) (j : Fin 1024) :
    concatenate S2x1024 0 [⟨S1x1024, u⟩, ⟨S1x1024, v⟩] concatenates_S1x1024_S1x1024_S2x1024_d0 (ix2 0 j) = u (ix2 0 j) :=
  concatenate_pair_apply_left (0 : Fin S2x1024.rank) u v concatenates_S1x1024_S1x1024_S2x1024_d0 (ix2 0 j) rfl (ix2 0 j) (fun b => by fin_cases b <;> rfl)
/-- The second of two stacked rows. -/
theorem rows_at1 (u v : FVec Ideal S1x1024 .f32) (j : Fin 1024) :
    concatenate S2x1024 0 [⟨S1x1024, u⟩, ⟨S1x1024, v⟩] concatenates_S1x1024_S1x1024_S2x1024_d0 (ix2 1 j) = v (ix2 0 j) :=
  concatenate_pair_apply_right (0 : Fin S2x1024.rank) u v concatenates_S1x1024_S1x1024_S2x1024_d0 (ix2 1 j) rfl rfl (ix2 0 j)
    (fun b hb => by
      fin_cases b
      · exact absurd rfl hb
      · rfl) rfl

/-- Both rows of the reference's result: the column's greatest entry, and its first row. -/
theorem ref_lead (x : Whole) (j : Fin 1024) :
    ∃ i, Lead (colOf x j) 0 65536 (refOut (F := Ideal) x (ix2 0 j)) i ∧ refOut (F := Ideal) x (ix2 1 j) = num i := by
  obtain ⟨i, h, e⟩ := fold_lead (colOf x j) 65535 (by omega)
  have h0 : refOut (F := Ideal) x (ix2 0 j) = refMax (F := Ideal) x (ix1 j) := (rows_at0 _ _ j).trans (asRow_at (refMax (F := Ideal) x) j)
  have h1 : refOut (F := Ideal) x (ix2 1 j) = (((refPair (F := Ideal) x (ix1 j)).2.toInt : ℝ) : EReal) :=
    (rows_at1 _ _ j).trans (asRow_at (sitofp .f32 fun j => (refPair (F := Ideal) x j).2) j)
  refine ⟨i, ?_, ?_⟩
  · rw [h0, refMax_at]
    exact h
  · rw [h1, refPair_at, e]
    exact sitofp_num (by have := h.lt; omega)

end Reference

/-! ## The device program's result -/

open Cert.KernelIdeal Cert.KernelIdeal.Gen

section Result
variable {F : FTy → Type} [FloatOps F] (m : (ℓ : Loc nD τ sig) → Buf (Elt F) ℓ) (ρ : Dev nD → PrngReg)

/-- The one block of the result is the whole result. -/
theorem index_out : ∀ t : Fin cfg0.N, win0_1.index t (0 : Fin 2) = 0 ∧ win0_1.index t (1 : Fin 2) = 0 := (by decide +kernel : ∀ t : Fin grid0.N, _)

/-- The result's one block is the whole result. -/
theorem out_emb (t : Fin cfg0.N) (i : S2x1024.Idx) : (win0_1.blk t).view.emb i = i := by
  obtain ⟨e0, e1⟩ := index_out t
  funext a
  apply Fin.ext
  match a with
  | ⟨0, _⟩ => show win0_1.index t (0 : Fin 2) * 2 + 1 * (i 0).val = (i 0).val; omega
  | ⟨1, _⟩ => show win0_1.index t (1 : Fin 2) * 1024 + 1 * (i 1).val = (i 1).val; omega

/-- What the last block writes back is the result; -/
theorem flushed_out (c : Dev nD) (t : Fin cfg0.N) : (dats m ρ 0 c).flushed 1 t = ((cfg0.win 1).blk t).view.read (Elt F) (outAt m c) := by
  funext i
  show outAt m c i = outAt m c ((win0_1.blk t).view.emb i)
  rw [out_emb]

/-- it covers the result array; -/
theorem cover_out (i : S2x1024.Idx) : ∃ t : Fin cfg0.N, (cfg0.win 1).flush t = true ∧ i ∈ ((cfg0.win 1).blk t).view.set := by
  refine ⟨⟨7, by decide⟩, (flush0_1 _).mpr rfl, ?_⟩
  have h := (win0_1.blk (⟨7, by decide⟩ : Fin cfg0.N)).view.emb_mem_set i
  rwa [out_emb] at h

/-- so the array holds it after the run. -/
theorem finalA_out (c : Dev nD) : finalA m ρ c 1 = outAt m c :=
  (dats m ρ 0 c).arrAt_eq_of_cover 1 (outAt m c) (fun t _ => flushed_out m ρ c t) cover_out

end Result

/-- Where each device holds its rows of the whole array, each device's result is the reference's of the whole array. -/
theorem out_eq_ref (m : (ℓ : Loc nD τ sig) → Buf (Elt Ideal) ℓ) (x : Whole) (hm : Cut m x) (c : Dev nD) : outAt m c = Ref.refOut (F := Ideal) x := by
  funext i
  obtain ⟨r, j, rfl⟩ : ∃ (r : Fin 2) (j : Fin 1024), i = ix2 r j := ⟨i 0, i 1, eq_ix2 i⟩
  obtain ⟨a, ha, ea⟩ := out_lead m x hm c j
  obtain ⟨b, hb, eb⟩ := ref_lead x j
  fin_cases r
  · exact ha.val_unique hb
  · exact ea.trans ((congrArg num (ha.row_unique hb)).trans eb.symm)

end Cert.ArgmaxProof
-- ==== Proof.lean ====
/-
The certificate: the runs of the kernel, of its idealization and of the reference, and the equality of what the two last compute.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_no_tie_Kernel
public import proofs.«01_k».proof.Proof.Gen.Pre_no_tie_ReferenceIdeal
public import proofs.«01_k».proof.Proof.Run
public import proofs.«01_k».proof.Proof.Ref
public import proofs.«01_k».proof.Proof.Equal

@[expose] public section

noncomputable section

namespace Cert.Proof

open Idealize.ShloMosaic Idealize.SL.Sem

instance kernelFacts : Cert.Kernel.Facts := Cert.Kernel.Gen.facts
instance idealFacts : Cert.KernelIdeal.Facts := Cert.KernelIdeal.Gen.facts

/-- The kernel and its idealization have the same text: the same bodies, -/
theorem bodies_eq : @Cert.Kernel.defs₀ Bits _ _ = @Cert.KernelIdeal.defs₀ Bits _ _ :=
  congrArg Defs.onTc (funext fun ℓ => funext fun a => by
    match ℓ, a with
    | 0, (t, s) => rfl)
/-- so the same table of programs. -/
theorem tables_eq : @Cert.Kernel.defs Bits _ _ = @Cert.KernelIdeal.defs Bits _ _ := congrArg (Pipeline.defs Cert.KernelIdeal.pcfgs) bodies_eq

/-- The kernel at machine floats. -/
theorem frame_kernel : Cert.quiescent_Kernel := fun m ρ _ => by
  rw [tables_eq]
  exact Cert.ArgmaxProof.run_args (F := Bits) m ρ

/-- The same under the precondition, which it does not need. -/
theorem frame_kernel_pre : Cert.quiescent_Kernel_pre_no_tie_Kernel := fun m ρ _ => frame_kernel m ρ trivial

/-- The idealized kernel. -/
theorem frame_ideal : Cert.quiescent_KernelIdeal := fun m ρ _ => Cert.ArgmaxProof.run_args (F := Ideal) m ρ

/-- The reference: it runs, leaves its argument as it was, and has no semaphore to leave raised. -/
theorem frame_reference : Cert.quiescent_ReferenceIdeal := fun m ρ _ =>
  (θ_run Cert.ReferenceIdeal.defs _ _).mono (fun _ h => ⟨fun c => (h c).2, funext fun g => match g with
    | (_, .reg s) => s.elim0
    | (_, .dma s) => s.elim0⟩)
    (Cert.ArgmaxProof.Ref.run_main (F := Ideal) m ρ)

/-- The same under the precondition. -/
theorem frame_reference_pre : Cert.quiescent_ReferenceIdeal_pre_no_tie_ReferenceIdeal := fun m ρ _ => frame_reference m ρ trivial

/-- Every device's result of the idealized kernel is the reference's result on the whole array: the column maxima and, as
numbers, the first rows that hold them. The precondition is not used: a block with a tie has a first row too. -/
theorem algebraic : Cert.algebraic_KernelIdeal_ReferenceIdeal := fun m g m' g' _ hx =>
  ⟨Cert.ArgmaxProof.Ref.refOut (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
      ⟨(h.1 c 1).trans ((Cert.ArgmaxProof.finalA_out m g c).trans (Cert.ArgmaxProof.out_eq_ref m _ hx c)),
        (h.1 c 0).trans (Cert.ArgmaxProof.finalA_arg m g c)⟩)
      (Cert.ArgmaxProof.run_main (F := Ideal) m g),
    (θ_run Cert.ReferenceIdeal.defs _ _).mono (fun _ h => h 0) (Cert.ArgmaxProof.Ref.run_main (F := Ideal) m' g')⟩

/-- All the claims together. -/
theorem claim : Cert.Claim :=
  ⟨Cert.Kernel.Gen.facts, Cert.KernelIdeal.Gen.facts, Cert.ReferenceIdeal.Gen.facts, Cert.Pre_no_tie_Kernel.Gen.facts, Cert.Pre_no_tie_ReferenceIdeal.Gen.facts,
    frame_kernel, frame_kernel_pre, frame_ideal, frame_reference, frame_reference_pre, trivial, algebraic⟩

end Cert.Proof

end
